-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)) (v4 : (c : Dev Cert.Kernel2Ideal.nD) → Buf (Elt Ideal) ((c.tc : Thread Cert.Kernel2Ideal.nD Cert.Kernel2Ideal.τ).loc Cert.Kernel2Ideal.main_v39_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_v39_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v95) = v3 c
          ∧ r.2.mem ((c.tc : Thread Cert.Reference2Ideal.nD Cert.Reference2Ideal.τ).loc Cert.Reference2Ideal.main_v96) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_logits.lean ====
abbrev S16384x1536 : Shape := ⟨2, ![16384, 1536]⟩
abbrev S2x4 : Shape := ⟨2, ![2, 4]⟩
abbrev S512 : Shape := ⟨1, ![512]⟩
abbrev S_ : Shape := ⟨0, ![]⟩

class Facts : Prop where
  bcast_S_S2x4 : S_.BroadcastsInDim S2x4 (![] : Fin 0 → Fin S2x4.rank)

variable [Facts]

def fn {F : FTy → Type} [FloatOps F] (main_arg0 : FVec F S16384x1536 .f32) (main_arg1 : FVec F S2x4 .f32) (main_arg2 : FVec F S512 .f32) : IVec S2x4 1 :=
  let main_v0 : FVec F S2x4 .f32 := Host.absf main_arg1
  let main_cst : FVec F S_ .f32 := constant S_ .f32 0x7F800000#32
  let main_v1 : FVec F S2x4 .f32 := broadcastInDim S2x4 ![] bcast_S_S2x4 main_cst
  let main_v2 : IVec S2x4 1 := cmpf .olt main_v0 main_v1
  main_v2
-- ==== Kernel.lean ====
abbrev S16384x1536 : Shape := ⟨2, ![16384, 1536]⟩
abbrev S2x4 : Shape := ⟨2, ![2, 4]⟩
abbrev S512 : Shape := ⟨1, ![512]⟩
abbrev S256 : Shape := ⟨1, ![256]⟩
abbrev S16384x256 : Shape := ⟨2, ![16384, 256]⟩
abbrev S16384x512 : Shape := ⟨2, ![16384, 512]⟩
abbrev S16384x4x2x32 : Shape := ⟨4, ![16384, 4, 2, 32]⟩
abbrev S16384x2x4x32 : Shape := ⟨4, ![16384, 2, 4, 32]⟩
abbrev S_ : Shape := ⟨0, ![]⟩
abbrev S256x1 : Shape := ⟨2, ![256, 1]⟩
abbrev S2x256 : Shape := ⟨2, ![2, 256]⟩
abbrev S2x4x1 : Shape := ⟨3, ![2, 4, 1]⟩
abbrev S2x4x128 : Shape := ⟨3, ![2, 4, 128]⟩
abbrev S1x512 : Shape := ⟨2, ![1, 512]⟩
abbrev S8x128 : Shape := ⟨2, ![8, 128]⟩
abbrev S8192x512 : Shape := ⟨2, ![8192, 512]⟩
abbrev S32x2x4x64x128 : Shape := ⟨5, ![32, 2, 4, 64, 128]⟩
abbrev S256x1536 : Shape := ⟨2, ![256, 1536]⟩
abbrev S256x512 : Shape := ⟨2, ![256, 512]⟩
abbrev S1x2x4x64x128 : Shape := ⟨5, ![1, 2, 4, 64, 128]⟩
abbrev S2x4x256x128 : Shape := ⟨4, ![2, 4, 256, 128]⟩
abbrev S4x128x128 : Shape := ⟨3, ![4, 128, 128]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S1x256 : Shape := ⟨2, ![1, 256]⟩
abbrev S128x256 : Shape := ⟨2, ![128, 256]⟩
abbrev S1x1x256x128 : Shape := ⟨4, ![1, 1, 256, 128]⟩
abbrev S256x128 : Shape := ⟨2, ![256, 128]⟩
abbrev S1x1x32x128 : Shape := ⟨4, ![1, 1, 32, 128]⟩
abbrev S32x128 : Shape := ⟨2, ![32, 128]⟩
abbrev S1x1x1x32x128 : Shape := ⟨5, ![1, 1, 1, 32, 128]⟩
abbrev S128 : Shape := ⟨1, ![128]⟩
abbrev S128x1 : Shape := ⟨2, ![128, 1]⟩

abbrev nBuf : Space → Nat
  | .hbm => 49
  | .vmem => 15
  | .smem => 0
  | _ => 0

abbrev bufTy : (tb : Table) → Fin (tcTables nBuf tb) → BufTy
  | .hbm, ⟨0, _⟩ => ⟨S16384x1536, .f32⟩
  | .hbm, ⟨1, _⟩ => ⟨S2x4, .f32⟩
  | .hbm, ⟨2, _⟩ => ⟨S512, .f32⟩
  | .hbm, ⟨3, _⟩ => ⟨S256, .i32⟩
  | .hbm, ⟨4, _⟩ => ⟨S256, .i1⟩
  | .hbm, ⟨5, _⟩ => ⟨S16384x256, .f32⟩
  | .hbm, ⟨6, _⟩ => ⟨S16384x256, .f32⟩
  | .hbm, ⟨7, _⟩ => ⟨S16384x512, .f32⟩
  | .hbm, ⟨8, _⟩ => ⟨S16384x512, .f32⟩
  | .hbm, ⟨9, _⟩ => ⟨S16384x4x2x32, .f32⟩
  | .hbm, ⟨10, _⟩ => ⟨S16384x2x4x32, .f32⟩
  | .hbm, ⟨11, _⟩ => ⟨S16384x256, .f32⟩
  | .hbm, ⟨12, _⟩ => ⟨S16384x4x2x32, .f32⟩
  | .hbm, ⟨13, _⟩ => ⟨S16384x2x4x32, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x1536, .f32⟩
  | .hbm, ⟨19, _⟩ => ⟨S16384x1536, .bf16⟩
  | .hbm, ⟨20, _⟩ => ⟨S2x4, .f32⟩
  | .hbm, ⟨21, _⟩ => ⟨S_, .f32⟩
  | .hbm, ⟨22, _⟩ => ⟨S2x4, .f32⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S2x4, .i1⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S2x4, .f32⟩
  | .hbm, ⟨31, _⟩ => ⟨S2x4, .f32⟩
  | .hbm, ⟨32, _⟩ => ⟨S2x4, .f32⟩
  | .hbm, ⟨33, _⟩ => ⟨S2x4, .f32⟩
  | .hbm, ⟨34, _⟩ => ⟨S2x4, .f32⟩
  | .hbm, ⟨35, _⟩ => ⟨S2x4, .f32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S2x256, .f32⟩
  | .hbm, ⟨42, _⟩ => ⟨S2x4x1, .f32⟩
  | .hbm, ⟨43, _⟩ => ⟨S2x4x128, .f32⟩
  | .hbm, ⟨44, _⟩ => ⟨S1x512, .f32⟩
  | .hbm, ⟨45, _⟩ => ⟨S_, .f32⟩
  | .hbm, ⟨46, _⟩ => ⟨S8x128, .f32⟩
  | .hbm, ⟨47, _⟩ => ⟨S8192x512, .bf16⟩
  | .hbm, ⟨48, _⟩ => ⟨S32x2x4x64x128, .f32⟩
  | .local _ .vmem, ⟨0, _⟩ => ⟨S256x1536, .bf16⟩
  | .local _ .vmem, ⟨1, _⟩ => ⟨S256x1536, .bf16⟩
  | .local _ .vmem, ⟨2, _⟩ => ⟨S8x128, .f32⟩
  | .local _ .vmem, ⟨3, _⟩ => ⟨S8x128, .f32⟩
  | .local _ .vmem, ⟨4, _⟩ => ⟨S2x256, .f32⟩
  | .local _ .vmem, ⟨5, _⟩ => ⟨S2x4x128, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S1x2x4x64x128, .f32⟩
  | .local _ .vmem, ⟨10, _⟩ => ⟨S1x2x4x64x128, .f32⟩
  | .local _ .vmem, ⟨11, _⟩ => ⟨S256x512, .f32⟩
  | .local _ .vmem, ⟨12, _⟩ => ⟨S256x512, .f32⟩
  | .local _ .vmem, ⟨13, _⟩ => ⟨S2x4x256x128, .f32⟩
  | .local _ .vmem, ⟨14, _⟩ => ⟨S4x128x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_57 : BitVec 32 := 0#32
  let c2_i32 : BitVec 32 := 2#32
  let v136 : BitVec 32 := Scalar.addi c0_i32_57 c2_i32
  let c1_i32_58 : BitVec 32 := 1#32
  ⟨c0_i32_57, v136, c1_i32_58⟩
def k0_mult1 (k0_t1 : Fin k0_t1_loop.trips) : BitVec 32 :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  v219
def k0_off1 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v221 : Index := Scalar.indexCast v220
  let c0_206 : Index := 0#32
  ![v221.toNat, 0]
def k0_off2 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v225 : Index := Scalar.indexCast v220
  let c256 : Index := 256#32
  ![v225.toNat, 256]
def k0_off3 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v229 : Index := Scalar.indexCast v220
  let c0_207 : Index := 0#32
  ![v229.toNat, 0]
def k0_off4 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v233 : Index := Scalar.indexCast v220
  let c256_208 : Index := 256#32
  ![v233.toNat, 256]
def k0_off5 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v253 : Index := Scalar.indexCast v220
  let c512 : Index := 512#32
  ![v253.toNat, 512]
def k0_off6 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v272 : Index := Scalar.indexCast v220
  let c0_223 : Index := 0#32
  ![v272.toNat, 0]
def k0_off7 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v295 : Index := Scalar.indexCast v220
  let c640 : Index := 640#32
  ![v295.toNat, 640]
def k0_off8 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v314 : Index := Scalar.indexCast v220
  let c128_246 : Index := 128#32
  ![v314.toNat, 128]
def k0_off9 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v337 : Index := Scalar.indexCast v220
  let c768 : Index := 768#32
  ![v337.toNat, 768]
def k0_off10 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v356 : Index := Scalar.indexCast v220
  let c256_269 : Index := 256#32
  ![v356.toNat, 256]
def k0_off11 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v379 : Index := Scalar.indexCast v220
  let c896 : Index := 896#32
  ![v379.toNat, 896]
def k0_off12 (k0_t1 : Fin k0_t1_loop.trips) : Fin 2 → Nat :=
  let c0_i32_57 : BitVec 32 := 0#32
  let c1_i32_58 : BitVec 32 := 1#32
  let arg13 : BitVec 32 := Scf.iv c0_i32_57 c1_i32_58 k0_t1
  let c128_i32_205 : BitVec 32 := 128#32
  let v219 : BitVec 32 := Scalar.muli arg13 c128_i32_205
  let v220 : BitVec 32 := v219
  let v398 : Index := Scalar.indexCast v220
  let c384 : Index := 384#32
  ![v398.toNat, 384]
@[reducible] def k0_t2_loop : Scf.Loop 32 :=
  let c0_i32_60 : BitVec 32 := 0#32
  let c2_i32_61 : BitVec 32 := 2#32
  let v137 : BitVec 32 := Scalar.addi c0_i32_60 c2_i32_61
  let c1_i32_62 : BitVec 32 := 1#32
  ⟨c0_i32_60, v137, c1_i32_62⟩
def k0_mult2 (k0_t2 : Fin k0_t2_loop.trips) : BitVec 32 :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  v220
def k0_off13 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v222 : Index := Scalar.indexCast v221
  let c0_207 : Index := 0#32
  ![v222.toNat, 0]
def k0_off14 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v224 : Index := Scalar.indexCast v221
  let c256 : Index := 256#32
  ![v224.toNat, 256]
def k0_off15 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v239 : Index := Scalar.indexCast v221
  let c512 : Index := 512#32
  ![v239.toNat, 512]
def k0_off16 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v244 : Index := Scalar.indexCast v221
  let c0_214 : Index := 0#32
  ![v244.toNat, 0]
def k0_off17 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v272 : Index := Scalar.indexCast v221
  let c640 : Index := 640#32
  ![v272.toNat, 640]
def k0_off18 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v277 : Index := Scalar.indexCast v221
  let c128_232 : Index := 128#32
  ![v277.toNat, 128]
def k0_off19 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v305 : Index := Scalar.indexCast v221
  let c768 : Index := 768#32
  ![v305.toNat, 768]
def k0_off20 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v310 : Index := Scalar.indexCast v221
  let c256_250 : Index := 256#32
  ![v310.toNat, 256]
def k0_off21 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v338 : Index := Scalar.indexCast v221
  let c896 : Index := 896#32
  ![v338.toNat, 896]
def k0_off22 (k0_t2 : Fin k0_t2_loop.trips) : Fin 2 → Nat :=
  let c1_i32_205 : BitVec 32 := 1#32
  let c0_i32_60 : BitVec 32 := 0#32
  let c1_i32_62 : BitVec 32 := 1#32
  let arg13 : BitVec 32 := Scf.iv c0_i32_60 c1_i32_62 k0_t2
  let v219 : BitVec 32 := Scalar.subi c1_i32_205 arg13
  let c128_i32_206 : BitVec 32 := 128#32
  let v220 : BitVec 32 := Scalar.muli v219 c128_i32_206
  let v221 : BitVec 32 := v220
  let v343 : Index := Scalar.indexCast v221
  let c384 : Index := 384#32
  ![v343.toNat, 384]
@[reducible] def k0_t3_loop : Scf.Loop 32 :=
  let c0_i32_201 : BitVec 32 := 0#32
  let c2_i32_202 : BitVec 32 := 2#32
  let v218 : BitVec 32 := Scalar.addi c0_i32_201 c2_i32_202
  let c1_i32_203 : BitVec 32 := 1#32
  ⟨c0_i32_201, v218, c1_i32_203⟩
def k0_mult3 (k0_t3 : Fin k0_t3_loop.trips) : BitVec 32 :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  v219
def k0_off23 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v221 : Index := Scalar.indexCast v220
  let c0_206 : Index := 0#32
  ![v221.toNat, 0]
def k0_off24 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v243 : Index := Scalar.indexCast v220
  let c1024 : Index := 1024#32
  ![v243.toNat, 1024]
def k0_off25 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v259 : Index := Scalar.indexCast v220
  let c128_218 : Index := 128#32
  ![v259.toNat, 128]
def k0_off26 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v281 : Index := Scalar.indexCast v220
  let c1152 : Index := 1152#32
  ![v281.toNat, 1152]
def k0_off27 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v297 : Index := Scalar.indexCast v220
  let c256 : Index := 256#32
  ![v297.toNat, 256]
def k0_off28 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v319 : Index := Scalar.indexCast v220
  let c1280 : Index := 1280#32
  ![v319.toNat, 1280]
def k0_off29 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v335 : Index := Scalar.indexCast v220
  let c384 : Index := 384#32
  ![v335.toNat, 384]
def k0_off30 (k0_t3 : Fin k0_t3_loop.trips) : Fin 2 → Nat :=
  let c0_i32_201 : BitVec 32 := 0#32
  let c1_i32_203 : BitVec 32 := 1#32
  let arg13 : BitVec 32 := Scf.iv c0_i32_201 c1_i32_203 k0_t3
  let c128_i32_205 : BitVec 32 := 128#32
  let v219 : BitVec 32 := Scalar.muli arg13 c128_i32_205
  let v220 : BitVec 32 := v219
  let v357 : Index := Scalar.indexCast v220
  let c1408 : Index := 1408#32
  ![v357.toNat, 1408]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1536 : Shape := ⟨2, ![16384, 1536]⟩
abbrev S2x4 : Shape := ⟨2, ![2, 4]⟩
abbrev S512 : Shape := ⟨1, ![512]⟩
abbrev S8192x1536 : Shape := ⟨2, ![8192, 1536]⟩
abbrev S32x256x1536 : Shape := ⟨3, ![32, 256, 1536]⟩
abbrev S32x256x256 : Shape := ⟨3, ![32, 256, 256]⟩
abbrev S32x256x512 : Shape := ⟨3, ![32, 256, 512]⟩
abbrev S32x256x4x64 : Shape := ⟨4, ![32, 256, 4, 64]⟩
abbrev S_ : Shape := ⟨0, ![]⟩
abbrev S32x256x4x128 : Shape := ⟨4, ![32, 256, 4, 128]⟩
abbrev S32x4x256x64 : Shape := ⟨4, ![32, 4, 256, 64]⟩
abbrev S32x4x256x128 : Shape := ⟨4, ![32, 4, 256, 128]⟩
abbrev S2x1x4x1x1 : Shape := ⟨5, ![2, 1, 4, 1, 1]⟩
abbrev S2x32x4x256x1 : Shape := ⟨5, ![2, 32, 4, 256, 1]⟩
abbrev S1x32x4x256x1 : Shape := ⟨5, ![1, 32, 4, 256, 1]⟩
abbrev S32x4x256x1 : Shape := ⟨4, ![32, 4, 256, 1]⟩
abbrev S32x4x2x128x64 : Shape := ⟨5, ![32, 4, 2, 128, 64]⟩
abbrev S32x4x2x128x128 : Shape := ⟨5, ![32, 4, 2, 128, 128]⟩
abbrev S32x4x2x128x1 : Shape := ⟨5, ![32, 4, 2, 128, 1]⟩
abbrev S32x4x2x1x1 : Shape := ⟨5, ![32, 4, 2, 1, 1]⟩
abbrev S32x4x2x64x128 : Shape := ⟨5, ![32, 4, 2, 64, 128]⟩
abbrev S32x4x2x1 : Shape := ⟨4, ![32, 4, 2, 1]⟩
abbrev S32x4x64x128 : Shape := ⟨4, ![32, 4, 64, 128]⟩
abbrev S32x4x1x1 : Shape := ⟨4, ![32, 4, 1, 1]⟩
abbrev S32x4x1 : Shape := ⟨3, ![32, 4, 1]⟩
abbrev S32x4x1x64x128 : Shape := ⟨5, ![32, 4, 1, 64, 128]⟩
abbrev S32x1x4x64x128 : Shape := ⟨5, ![32, 1, 4, 64, 128]⟩
abbrev S32x2x4x64x128 : Shape := ⟨5, ![32, 2, 4, 64, 128]⟩

abbrev nBuf : Space → Nat
  | .hbm => 110
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S2x4, .f32⟩
  | .hbm, ⟨2, _⟩ => ⟨S512, .f32⟩
  | .hbm, ⟨3, _⟩ => ⟨S8192x1536, .f32⟩
  | .hbm, ⟨4, _⟩ => ⟨S32x256x1536, .f32⟩
  | .hbm, ⟨5, _⟩ => ⟨S32x256x256, .f32⟩
  | .hbm, ⟨6, _⟩ => ⟨S32x256x256, .f32⟩
  | .hbm, ⟨7, _⟩ => ⟨S32x256x512, .f32⟩
  | .hbm, ⟨8, _⟩ => ⟨S32x256x512, .f32⟩
  | .hbm, ⟨9, _⟩ => ⟨S32x256x4x64, .f32⟩
  | .hbm, ⟨10, _⟩ => ⟨S_, .f32⟩
  | .hbm, ⟨11, _⟩ => ⟨S32x256x4x64, .f32⟩
  | .hbm, ⟨12, _⟩ => ⟨S32x256x4x64, .f32⟩
  | .hbm, ⟨13, _⟩ => ⟨S32x256x4x128, .f32⟩
  | .hbm, ⟨14, _⟩ => ⟨S32x4x256x64, .f32⟩
  | .hbm, ⟨15, _⟩ => ⟨S32x4x256x128, .f32⟩
  | .hbm, ⟨16, _⟩ => ⟨S2x4, .f32⟩
  | .hbm, ⟨17, _⟩ => ⟨S_, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S2x4, .i1⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S2x4, .f32⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S2x4, .f32⟩
  | .hbm, ⟨31, _⟩ => ⟨S2x4, .f32⟩
  | .hbm, ⟨32, _⟩ => ⟨S2x1x4x1x1, .f32⟩
  | .hbm, ⟨33, _⟩ => ⟨S2x32x4x256x1, .f32⟩
  | .hbm, ⟨34, _⟩ => ⟨S1x32x4x256x1, .f32⟩
  | .hbm, ⟨35, _⟩ => ⟨S32x4x256x1, .f32⟩
  | .hbm, ⟨36, _⟩ => ⟨S32x4x2x128x64, .f32⟩
  | .hbm, ⟨37, _⟩ => ⟨S32x4x2x128x128, .f32⟩
  | .hbm, ⟨38, _⟩ => ⟨S32x4x2x128x1, .f32⟩
  | .hbm, ⟨39, _⟩ => ⟨S_, .f32⟩
  | .hbm, ⟨40, _⟩ => ⟨S_, .f32⟩
  | .hbm, ⟨41, _⟩ => ⟨S32x4x2x128x1, .f32⟩
  | .hbm, ⟨42, _⟩ => ⟨S32x4x2x1x1, .f32⟩
  | .hbm, ⟨43, _⟩ => ⟨S32x4x2x128x1, .f32⟩
  | .hbm, ⟨44, _⟩ => ⟨S32x4x2x128x1, .f32⟩
  | .hbm, ⟨45, _⟩ => ⟨S32x4x2x128x1, .f32⟩
  | .hbm, ⟨46, _⟩ => ⟨S32x4x2x128x64, .f32⟩
  | .hbm, ⟨47, _⟩ => ⟨S32x4x2x128x64, .f32⟩
  | .hbm, ⟨48, _⟩ => ⟨S32x4x2x64x128, .f32⟩
  | .hbm, ⟨49, _⟩ => ⟨S32x4x2x1, .f32⟩
  | .hbm, ⟨50, _⟩ => ⟨S32x4x2x1, .f32⟩
  | .hbm, ⟨51, _⟩ => ⟨S_, .f32⟩
  | .hbm, ⟨52, _⟩ => ⟨S32x4x64x128, .f32⟩
  | .hbm, ⟨53, _⟩ => ⟨S32x4x1x1, .f32⟩
  | .hbm, ⟨54, _⟩ => ⟨S32x4x1, .f32⟩
  | .hbm, ⟨55, _⟩ => ⟨S32x4x1x1, .f32⟩
  | .hbm, ⟨56, _⟩ => ⟨S32x4x64x128, .f32⟩
  | .hbm, ⟨57, _⟩ => ⟨S32x4x64x128, .f32⟩
  | .hbm, ⟨58, _⟩ => ⟨S32x4x1x64x128, .f32⟩
  | .hbm, ⟨59, _⟩ => ⟨S32x4x64x128, .f32⟩
  | .hbm, ⟨60, _⟩ => ⟨S32x4x64x128, .f32⟩
  | .hbm, ⟨61, _⟩ => ⟨S32x4x1x1, .f32⟩
  | .hbm, ⟨62, _⟩ => ⟨S32x4x1, .f32⟩
  | .hbm, ⟨63, _⟩ => ⟨S32x4x1x1, .f32⟩
  | .hbm, ⟨64, _⟩ => ⟨S32x4x64x128, .f32⟩
  | .hbm, ⟨65, _⟩ => ⟨S32x4x64x128, .f32⟩
  | .hbm, ⟨66, _⟩ => ⟨S32x4x1x64x128, .f32⟩
  | .hbm, ⟨67, _⟩ => ⟨S32x4x64x128, .f32⟩
  | .hbm, ⟨68, _⟩ => ⟨S32x4x64x128, .f32⟩
  | .hbm, ⟨69, _⟩ => ⟨S32x4x256x64, .f32⟩
  | .hbm, ⟨70, _⟩ => ⟨S32x4x256x128, .f32⟩
  | .hbm, ⟨71, _⟩ => ⟨S1x32x4x256x1, .f32⟩
  | .hbm, ⟨72, _⟩ => ⟨S32x4x256x1, .f32⟩
  | .hbm, ⟨73, _⟩ => ⟨S32x4x256x1, .f32⟩
  | .hbm, ⟨74, _⟩ => ⟨S32x4x2x128x64, .f32⟩
  | .hbm, ⟨75, _⟩ => ⟨S32x4x2x128x128, .f32⟩
  | .hbm, ⟨76, _⟩ => ⟨S32x4x2x128x1, .f32⟩
  | .hbm, ⟨77, _⟩ => ⟨S_, .f32⟩
  | .hbm, ⟨78, _⟩ => ⟨S_, .f32⟩
  | .hbm, ⟨79, _⟩ => ⟨S32x4x2x128x1, .f32⟩
  | .hbm, ⟨80, _⟩ => ⟨S32x4x2x1x1, .f32⟩
  | .hbm, ⟨81, _⟩ => ⟨S32x4x2x128x1, .f32⟩
  | .hbm, ⟨82, _⟩ => ⟨S32x4x2x128x1, .f32⟩
  | .hbm, ⟨83, _⟩ => ⟨S32x4x2x128x1, .f32⟩
  | .hbm, ⟨84, _⟩ => ⟨S32x4x2x128x64, .f32⟩
  | .hbm, ⟨85, _⟩ => ⟨S32x4x2x128x64, .f32⟩
  | .hbm, ⟨86, _⟩ => ⟨S32x4x2x64x128, .f32⟩
  | .hbm, ⟨87, _⟩ => ⟨S32x4x2x1, .f32⟩
  | .hbm, ⟨88, _⟩ => ⟨S32x4x2x1, .f32⟩
  | .hbm, ⟨89, _⟩ => ⟨S_, .f32⟩
  | .hbm, ⟨90, _⟩ => ⟨S32x4x64x128, .f32⟩
  | .hbm, ⟨91, _⟩ => ⟨S32x4x1x1, .f32⟩
  | .hbm, ⟨92, _⟩ => ⟨S32x4x1, .f32⟩
  | .hbm, ⟨93, _⟩ => ⟨S32x4x1x1, .f32⟩
  | .hbm, ⟨94, _⟩ => ⟨S32x4x64x128, .f32⟩
  | .hbm, ⟨95, _⟩ => ⟨S32x4x64x128, .f32⟩
  | .hbm, ⟨96, _⟩ => ⟨S32x4x1x64x128, .f32⟩
  | .hbm, ⟨97, _⟩ => ⟨S32x4x64x128, .f32⟩
  | .hbm, ⟨98, _⟩ => ⟨S32x4x64x128, .f32⟩
  | .hbm, ⟨99, _⟩ => ⟨S32x4x1x1, .f32⟩
  | .hbm, ⟨100, _⟩ => ⟨S32x4x1, .f32⟩
  | .hbm, ⟨101, _⟩ => ⟨S32x4x1x1, .f32⟩
  | .hbm, ⟨102, _⟩ => ⟨S32x4x64x128, .f32⟩
  | .hbm, ⟨103, _⟩ => ⟨S32x4x64x128, .f32⟩
  | .hbm, ⟨104, _⟩ => ⟨S32x4x1x64x128, .f32⟩
  | .hbm, ⟨105, _⟩ => ⟨S32x4x64x128, .f32⟩
  | .hbm, ⟨106, _⟩ => ⟨S32x4x64x128, .f32⟩
  | .hbm, ⟨107, _⟩ => ⟨S32x1x4x64x128, .f32⟩
  | .hbm, ⟨108, _⟩ => ⟨S32x1x4x64x128, .f32⟩
  | .hbm, ⟨109, _⟩ => ⟨S32x2x4x64x128, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call5_call0_cst : Ref sig .tc := ⟨.hbm, 77, rfl⟩
abbrev main_call5_call0_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_1 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel2.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S1024x8464 : Shape := ⟨2, ![1024, 8464]⟩
abbrev S8192x1024 : Shape := ⟨2, ![8192, 1024]⟩
abbrev S1024x256 : Shape := ⟨2, ![1024, 256]⟩
abbrev S1024x512 : Shape := ⟨2, ![1024, 512]⟩
abbrev S1024x768 : Shape := ⟨2, ![1024, 768]⟩
abbrev S1024x16 : Shape := ⟨2, ![1024, 16]⟩
abbrev S1024x1024 : Shape := ⟨2, ![1024, 1024]⟩
abbrev S1024x3072 : Shape := ⟨2, ![1024, 3072]⟩
abbrev S1024x4x2x32 : Shape := ⟨4, ![1024, 4, 2, 32]⟩
abbrev S1024x2x4x32 : Shape := ⟨4, ![1024, 2, 4, 32]⟩
abbrev S_ : Shape := ⟨0, ![]⟩
abbrev S1024x1536 : Shape := ⟨2, ![1024, 1536]⟩
abbrev S1024x64 : Shape := ⟨2, ![1024, 64]⟩
abbrev S1024x112 : Shape := ⟨2, ![1024, 112]⟩
abbrev S1024x1152 : Shape := ⟨2, ![1024, 1152]⟩
abbrev S1x1024 : Shape := ⟨2, ![1, 1024]⟩
abbrev S16384x1536 : Shape := ⟨2, ![16384, 1536]⟩
abbrev S16384x3072 : Shape := ⟨2, ![16384, 3072]⟩
abbrev S16384x1152 : Shape := ⟨2, ![16384, 1152]⟩
abbrev S512x1024 : Shape := ⟨2, ![512, 1024]⟩
abbrev S1x6x1024 : Shape := ⟨3, ![1, 6, 1024]⟩
abbrev S512x1536 : Shape := ⟨2, ![512, 1536]⟩
abbrev S512x3072 : Shape := ⟨2, ![512, 3072]⟩
abbrev S512x1152 : Shape := ⟨2, ![512, 1152]⟩
abbrev S1x1x1024 : Shape := ⟨3, ![1, 1, 1024]⟩
abbrev S512 : Shape := ⟨1, ![512]⟩
abbrev S512x1 : Shape := ⟨2, ![512, 1]⟩

abbrev nBuf : Space → Nat
  | .hbm => 51
  | .vmem => 22
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x6x1024, .f32⟩
  | .hbm, ⟨3, _⟩ => ⟨S1024, .f32⟩
  | .hbm, ⟨4, _⟩ => ⟨S1024x8464, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x768, .f32⟩
  | .hbm, ⟨13, _⟩ => ⟨S1024x16, .f32⟩
  | .hbm, ⟨14, _⟩ => ⟨S1024x512, .f32⟩
  | .hbm, ⟨15, _⟩ => ⟨S1024x1024, .f32⟩
  | .hbm, ⟨16, _⟩ => ⟨S1024x512, .f32⟩
  | .hbm, ⟨17, _⟩ => ⟨S1024x512, .f32⟩
  | .hbm, ⟨18, _⟩ => ⟨S1024x3072, .f32⟩
  | .hbm, ⟨19, _⟩ => ⟨S1024x4x2x32, .f32⟩
  | .hbm, ⟨20, _⟩ => ⟨S1024x2x4x32, .f32⟩
  | .hbm, ⟨21, _⟩ => ⟨S1024x256, .f32⟩
  | .hbm, ⟨22, _⟩ => ⟨S1024x4x2x32, .f32⟩
  | .hbm, ⟨23, _⟩ => ⟨S1024x2x4x32, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x1536, .f32⟩
  | .hbm, ⟨29, _⟩ => ⟨S1024x1536, .bf16⟩
  | .hbm, ⟨30, _⟩ => ⟨S1024x512, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S1024x1024, .f32⟩
  | .hbm, ⟨36, _⟩ => ⟨S1024x1536, .f32⟩
  | .hbm, ⟨37, _⟩ => ⟨S1024x1536, .bf16⟩
  | .hbm, ⟨38, _⟩ => ⟨S1024x1536, .f32⟩
  | .hbm, ⟨39, _⟩ => ⟨S1024x1536, .bf16⟩
  | .hbm, ⟨40, _⟩ => ⟨S_, .f32⟩
  | .hbm, ⟨41, _⟩ => ⟨S1024x112, .f32⟩
  | .hbm, ⟨42, _⟩ => ⟨S1024x1152, .f32⟩
  | .hbm, ⟨43, _⟩ => ⟨S1024x1152, .bf16⟩
  | .hbm, ⟨44, _⟩ => ⟨S1024x3072, .bf16⟩
  | .hbm, ⟨45, _⟩ => ⟨S1x1024, .f32⟩
  | .hbm, ⟨46, _⟩ => ⟨S16384x1536, .bf16⟩
  | .hbm, ⟨47, _⟩ => ⟨S16384x1536, .bf16⟩
  | .hbm, ⟨48, _⟩ => ⟨S16384x1536, .bf16⟩
  | .hbm, ⟨49, _⟩ => ⟨S16384x3072, .bf16⟩
  | .hbm, ⟨50, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1024x3072, .bf16⟩
  | .local _ .vmem, ⟨11, _⟩ => ⟨S1024x1152, .bf16⟩
  | .local _ .vmem, ⟨12, _⟩ => ⟨S512x1536, .bf16⟩
  | .local _ .vmem, ⟨13, _⟩ => ⟨S512x1536, .bf16⟩
  | .local _ .vmem, ⟨14, _⟩ => ⟨S512x1536, .bf16⟩
  | .local _ .vmem, ⟨15, _⟩ => ⟨S512x1536, .bf16⟩
  | .local _ .vmem, ⟨16, _⟩ => ⟨S512x1536, .bf16⟩
  | .local _ .vmem, ⟨17, _⟩ => ⟨S512x1536, .bf16⟩
  | .local _ .vmem, ⟨18, _⟩ => ⟨S512x3072, .bf16⟩
  | .local _ .vmem, ⟨19, _⟩ => ⟨S512x3072, .bf16⟩
  | .local _ .vmem, ⟨20, _⟩ => ⟨S512x1152, .f32⟩
  | .local _ .vmem, ⟨21, _⟩ => ⟨S512x1152, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev main_v39_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S1024x8464 : Shape := ⟨2, ![1024, 8464]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S32x256x8464 : Shape := ⟨3, ![32, 256, 8464]⟩
abbrev S8192x8464 : Shape := ⟨2, ![8192, 8464]⟩
abbrev S4x6x1024 : Shape := ⟨3, ![4, 6, 1024]⟩
abbrev S4x1x1024 : Shape := ⟨3, ![4, 1, 1024]⟩
abbrev S4x1024 : Shape := ⟨2, ![4, 1024]⟩
abbrev S4x2048 : Shape := ⟨2, ![4, 2048]⟩
abbrev S4x2048x1 : Shape := ⟨3, ![4, 2048, 1]⟩
abbrev S4x2048x8464 : Shape := ⟨3, ![4, 2048, 8464]⟩
abbrev S16384x8464 : Shape := ⟨2, ![16384, 8464]⟩
abbrev S16384x256 : Shape := ⟨2, ![16384, 256]⟩
abbrev S16384x512 : Shape := ⟨2, ![16384, 512]⟩
abbrev S16384x768 : Shape := ⟨2, ![16384, 768]⟩
abbrev S16384x16 : Shape := ⟨2, ![16384, 16]⟩
abbrev S16384x1024 : Shape := ⟨2, ![16384, 1024]⟩
abbrev S16384x3072 : Shape := ⟨2, ![16384, 3072]⟩
abbrev S16384x128 : Shape := ⟨2, ![16384, 128]⟩
abbrev S16384x64 : Shape := ⟨2, ![16384, 64]⟩
abbrev S16384x4x64 : Shape := ⟨3, ![16384, 4, 64]⟩
abbrev S16384x4x32 : Shape := ⟨3, ![16384, 4, 32]⟩
abbrev S16384x1536 : Shape := ⟨2, ![16384, 1536]⟩
abbrev S16384x112 : Shape := ⟨2, ![16384, 112]⟩
abbrev S16384x1152 : Shape := ⟨2, ![16384, 1152]⟩

abbrev nBuf : Space → Nat
  | .hbm => 112
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x6x1024, .f32⟩
  | .hbm, ⟨3, _⟩ => ⟨S1024, .f32⟩
  | .hbm, ⟨4, _⟩ => ⟨S1024x8464, .f32⟩
  | .hbm, ⟨5, _⟩ => ⟨S1x6x1024, .f32⟩
  | .hbm, ⟨6, _⟩ => ⟨S1x1x1024, .f32⟩
  | .hbm, ⟨7, _⟩ => ⟨S1x1024, .f32⟩
  | .hbm, ⟨8, _⟩ => ⟨S1x1x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x8464, .f32⟩
  | .hbm, ⟨36, _⟩ => ⟨S8192x8464, .f32⟩
  | .hbm, ⟨37, _⟩ => ⟨S4x6x1024, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S4x1x1024, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x1x1024, .f32⟩
  | .hbm, ⟨62, _⟩ => ⟨S4x1x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x8464, .f32⟩
  | .hbm, ⟨68, _⟩ => ⟨S8192x8464, .f32⟩
  | .hbm, ⟨69, _⟩ => ⟨S16384x8464, .f32⟩
  | .hbm, ⟨70, _⟩ => ⟨S16384x256, .f32⟩
  | .hbm, ⟨71, _⟩ => ⟨S16384x256, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x768, .f32⟩
  | .hbm, ⟨76, _⟩ => ⟨S16384x16, .f32⟩
  | .hbm, ⟨77, _⟩ => ⟨S16384x512, .f32⟩
  | .hbm, ⟨78, _⟩ => ⟨S16384x1024, .f32⟩
  | .hbm, ⟨79, _⟩ => ⟨S16384x512, .f32⟩
  | .hbm, ⟨80, _⟩ => ⟨S16384x512, .f32⟩
  | .hbm, ⟨81, _⟩ => ⟨S16384x3072, .f32⟩
  | .hbm, ⟨82, _⟩ => ⟨S_, .f32⟩
  | .hbm, ⟨83, _⟩ => ⟨S16384x256, .f32⟩
  | .hbm, ⟨84, _⟩ => ⟨S16384x256, .f32⟩
  | .hbm, ⟨85, _⟩ => ⟨S16384x512, .f32⟩
  | .hbm, ⟨86, _⟩ => ⟨S16384x128, .f32⟩
  | .hbm, ⟨87, _⟩ => ⟨S16384x128, .f32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S16384x64, .f32⟩
  | .hbm, ⟨92, _⟩ => ⟨S16384x4x64, .f32⟩
  | .hbm, ⟨93, _⟩ => ⟨S16384x4x32, .f32⟩
  | .hbm, ⟨94, _⟩ => ⟨S16384x4x32, .f32⟩
  | .hbm, ⟨95, _⟩ => ⟨S16384x128, .f32⟩
  | .hbm, ⟨96, _⟩ => ⟨S16384x128, .f32⟩
  | .hbm, ⟨97, _⟩ => ⟨S16384x4x64, .f32⟩
  | .hbm, ⟨98, _⟩ => ⟨S16384x4x32, .f32⟩
  | .hbm, ⟨99, _⟩ => ⟨S16384x4x32, .f32⟩
  | .hbm, ⟨100, _⟩ => ⟨S16384x128, .f32⟩
  | .hbm, ⟨101, _⟩ => ⟨S16384x128, .f32⟩
  | .hbm, ⟨102, _⟩ => ⟨S16384x1536, .f32⟩
  | .hbm, ⟨103, _⟩ => ⟨S_, .f32⟩
  | .hbm, ⟨104, _⟩ => ⟨S16384x112, .f32⟩
  | .hbm, ⟨105, _⟩ => ⟨S16384x1536, .bf16⟩
  | .hbm, ⟨106, _⟩ => ⟨S16384x1536, .f32⟩
  | .hbm, ⟨107, _⟩ => ⟨S16384x1536, .bf16⟩
  | .hbm, ⟨108, _⟩ => ⟨S16384x1536, .f32⟩
  | .hbm, ⟨109, _⟩ => ⟨S16384x1536, .bf16⟩
  | .hbm, ⟨110, _⟩ => ⟨S16384x3072, .bf16⟩
  | .hbm, ⟨111, _⟩ => ⟨S16384x1152, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_8 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩

abbrev nD : Nat := 1
abbrev τ : Topo := Topo.v7x

variable {F : FTy → Type} [FloatOps F]
-- ==== Kernel3.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S8192x512 : Shape := ⟨2, ![8192, 512]⟩
abbrev S16384x3072 : Shape := ⟨2, ![16384, 3072]⟩
abbrev S3x512x1024 : Shape := ⟨3, ![3, 512, 1024]⟩
abbrev S1024x1024 : Shape := ⟨2, ![1024, 1024]⟩
abbrev S8192x1024 : Shape := ⟨2, ![8192, 1024]⟩
abbrev S1x1024 : Shape := ⟨2, ![1, 1024]⟩
abbrev S16384x1024 : Shape := ⟨2, ![16384, 1024]⟩
abbrev S512x1024 : Shape := ⟨2, ![512, 1024]⟩
abbrev S1x6x1024 : Shape := ⟨3, ![1, 6, 1024]⟩
abbrev S512x512 : Shape := ⟨2, ![512, 512]⟩
abbrev S512x3072 : Shape := ⟨2, ![512, 3072]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 27
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x6x1024, .f32⟩
  | .hbm, ⟨3, _⟩ => ⟨S1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S16384x3072, .bf16⟩
  | .hbm, ⟨11, _⟩ => ⟨S3x512x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S16384x1024, .f32⟩
  | .hbm, ⟨19, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x3072, .bf16⟩
  | .local _ .vmem, ⟨20, _⟩ => ⟨S512x3072, .bf16⟩
  | .local _ .vmem, ⟨21, _⟩ => ⟨S3x512x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S8192x512 : Shape := ⟨2, ![8192, 512]⟩
abbrev S16384x3072 : Shape := ⟨2, ![16384, 3072]⟩
abbrev S3x512x1024 : Shape := ⟨3, ![3, 512, 1024]⟩
abbrev S1024x1024 : Shape := ⟨2, ![1024, 1024]⟩
abbrev S1x6x1024 : Shape := ⟨3, ![1, 6, 1024]⟩
abbrev S8192x3072 : Shape := ⟨2, ![8192, 3072]⟩
abbrev S1x1x1024 : Shape := ⟨3, ![1, 1, 1024]⟩
abbrev S1x1024 : Shape := ⟨2, ![1, 1024]⟩
abbrev S32x256x512 : Shape := ⟨3, ![32, 256, 512]⟩
abbrev S32x256x1x512 : Shape := ⟨4, ![32, 256, 1, 512]⟩
abbrev S32x256x3x512 : Shape := ⟨4, ![32, 256, 3, 512]⟩
abbrev S3x1024x32x256 : Shape := ⟨4, ![3, 1024, 32, 256]⟩
abbrev S32x256x3x1024 : Shape := ⟨4, ![32, 256, 3, 1024]⟩
abbrev S_ : Shape := ⟨0, ![]⟩
abbrev S32x256 : Shape := ⟨2, ![32, 256]⟩
abbrev S32x256x1 : Shape := ⟨3, ![32, 256, 1]⟩
abbrev S8192x1024 : Shape := ⟨2, ![8192, 1024]⟩
abbrev S4x6x1024 : Shape := ⟨3, ![4, 6, 1024]⟩
abbrev S4x1x1024 : Shape := ⟨3, ![4, 1, 1024]⟩
abbrev S4x1024 : Shape := ⟨2, ![4, 1024]⟩
abbrev S4x2048x512 : Shape := ⟨3, ![4, 2048, 512]⟩
abbrev S4x2048x1x512 : Shape := ⟨4, ![4, 2048, 1, 512]⟩
abbrev S4x2048x3x512 : Shape := ⟨4, ![4, 2048, 3, 512]⟩
abbrev S3x1024x4x2048 : Shape := ⟨4, ![3, 1024, 4, 2048]⟩
abbrev S4x2048x3x1024 : Shape := ⟨4, ![4, 2048, 3, 1024]⟩
abbrev S4x2048 : Shape := ⟨2, ![4, 2048]⟩
abbrev S4x2048x1 : Shape := ⟨3, ![4, 2048, 1]⟩
abbrev S16384x1024 : Shape := ⟨2, ![16384, 1024]⟩

abbrev nBuf : Space → Nat
  | .hbm => 143
  | .vmem => 0
  | .smem => 0
  | _ => 0

abbrev hbmTy0_0 (i : Nat) : BufTy := match i % 128 with
  | 0 => ⟨S32x256x1024, .f32⟩
  | 1 => ⟨S4x2048x1024, .f32⟩
  | 2 => ⟨S8x6x1024, .f32⟩
  | 3 => ⟨S1024, .f32⟩
  | 4 => ⟨S8192x512, .bf16⟩
  | 5 => ⟨S8192x512, .bf16⟩
  | 6 => ⟨S8192x512, .bf16⟩
  | 7 => ⟨S8192x512, .bf16⟩
  | 8 => ⟨S8192x512, .bf16⟩
  | 9 => ⟨S8192x512, .bf16⟩
  | 10 => ⟨S16384x3072, .bf16⟩
  | 11 => ⟨S3x512x1024, .f32⟩
  | 12 => ⟨S1024x1024, .f32⟩
  | 13 => ⟨S1x6x1024, .f32⟩
  | 14 => ⟨S8192x3072, .bf16⟩
  | 15 => ⟨S1x1x1024, .f32⟩
  | 16 => ⟨S1x1024, .f32⟩
  | 17 => ⟨S1x1x1024, .f32⟩
  | 18 => ⟨S1x1x1024, .f32⟩
  | 19 => ⟨S1x1024, .f32⟩
  | 20 => ⟨S1x1x1024, .f32⟩
  | 21 => ⟨S1x1x1024, .f32⟩
  | 22 => ⟨S1x1024, .f32⟩
  | 23 => ⟨S1x1x1024, .f32⟩
  | 24 => ⟨S32x256x512, .bf16⟩
  | 25 => ⟨S32x256x512, .bf16⟩
  | 26 => ⟨S32x256x512, .bf16⟩
  | 27 => ⟨S32x256x1x512, .bf16⟩
  | 28 => ⟨S32x256x1x512, .bf16⟩
  | 29 => ⟨S32x256x1x512, .bf16⟩
  | 30 => ⟨S32x256x3x512, .bf16⟩
  | 31 => ⟨S32x256x3x512, .f32⟩
  | 32 => ⟨S3x1024x32x256, .f32⟩
  | 33 => ⟨S32x256x3x1024, .f32⟩
  | 34 => ⟨S8192x3072, .f32⟩
  | 35 => ⟨S32x256x3x1024, .f32⟩
  | 36 => ⟨S32x256x3x1024, .f32⟩
  | 37 => ⟨S32x256x3x1024, .f32⟩
  | 38 => ⟨S_, .f32⟩
  | 39 => ⟨S32x256x3x1024, .f32⟩
  | 40 => ⟨S32x256x3x1024, .f32⟩
  | 41 => ⟨S_, .f32⟩
  | 42 => ⟨S32x256x3x1024, .f32⟩
  | 43 => ⟨S32x256x3x1024, .f32⟩
  | 44 => ⟨S32x256x3x1024, .f32⟩
  | 45 => ⟨S_, .f32⟩
  | 46 => ⟨S32x256x1024, .f32⟩
  | 47 => ⟨S32x256x1024, .f32⟩
  | 48 => ⟨S32x256x1024, .f32⟩
  | 49 => ⟨S32x256x1024, .f32⟩
  | 50 => ⟨S32x256x1024, .f32⟩
  | 51 => ⟨S32x256x1024, .f32⟩
  | 52 => ⟨S_, .f32⟩
  | 53 => ⟨S32x256, .f32⟩
  | 54 => ⟨S32x256x1, .f32⟩
  | 55 => ⟨S_, .f32⟩
  | 56 => ⟨S32x256x1, .f32⟩
  | 57 => ⟨S32x256x1, .f32⟩
  | 58 => ⟨S_, .f32⟩
  | 59 => ⟨S32x256x1, .f32⟩
  | 60 => ⟨S32x256x1, .f32⟩
  | 61 => ⟨S32x256x1, .f32⟩
  | 62 => ⟨S32x256x1024, .f32⟩
  | 63 => ⟨S32x256x1024, .f32⟩
  | 64 => ⟨S1x1x1024, .f32⟩
  | 65 => ⟨S32x256x1024, .f32⟩
  | 66 => ⟨S32x256x1024, .f32⟩
  | 67 => ⟨S_, .f32⟩
  | 68 => ⟨S1x1x1024, .f32⟩
  | 69 => ⟨S1x1x1024, .f32⟩
  | 70 => ⟨S32x256x1024, .f32⟩
  | 71 => ⟨S32x256x1024, .f32⟩
  | 72 => ⟨S32x256x1024, .f32⟩
  | 73 => ⟨S32x256x1024, .f32⟩
  | 74 => ⟨S8192x1024, .f32⟩
  | 75 => ⟨S8192x1024, .f32⟩
  | 76 => ⟨S8192x1024, .bf16⟩
  | 77 => ⟨S4x6x1024, .f32⟩
  | 78 => ⟨S8192x3072, .bf16⟩
  | 79 => ⟨S4x1x1024, .f32⟩
  | 80 => ⟨S4x1024, .f32⟩
  | 81 => ⟨S4x1x1024, .f32⟩
  | 82 => ⟨S4x1x1024, .f32⟩
  | 83 => ⟨S4x1024, .f32⟩
  | 84 => ⟨S4x1x1024, .f32⟩
  | 85 => ⟨S4x1x1024, .f32⟩
  | 86 => ⟨S4x1024, .f32⟩
  | 87 => ⟨S4x1x1024, .f32⟩
  | 88 => ⟨S4x2048x512, .bf16⟩
  | 89 => ⟨S4x2048x512, .bf16⟩
  | 90 => ⟨S4x2048x512, .bf16⟩
  | 91 => ⟨S4x2048x1x512, .bf16⟩
  | 92 => ⟨S4x2048x1x512, .bf16⟩
  | 93 => ⟨S4x2048x1x512, .bf16⟩
  | 94 => ⟨S4x2048x3x512, .bf16⟩
  | 95 => ⟨S4x2048x3x512, .f32⟩
  | 96 => ⟨S3x1024x4x2048, .f32⟩
  | 97 => ⟨S4x2048x3x1024, .f32⟩
  | 98 => ⟨S8192x3072, .f32⟩
  | 99 => ⟨S4x2048x3x1024, .f32⟩
  | 100 => ⟨S4x2048x3x1024, .f32⟩
  | 101 => ⟨S4x2048x3x1024, .f32⟩
  | 102 => ⟨S_, .f32⟩
  | 103 => ⟨S4x2048x3x1024, .f32⟩
  | 104 => ⟨S4x2048x3x1024, .f32⟩
  | 105 => ⟨S_, .f32⟩
  | 106 => ⟨S4x2048x3x1024, .f32⟩
  | 107 => ⟨S4x2048x3x1024, .f32⟩
  | 108 => ⟨S4x2048x3x1024, .f32⟩
  | 109 => ⟨S_, .f32⟩
  | 110 => ⟨S4x2048x1024, .f32⟩
  | 111 => ⟨S4x2048x1024, .f32⟩
  | 112 => ⟨S4x2048x1024, .f32⟩
  | 113 => ⟨S4x2048x1024, .f32⟩
  | 114 => ⟨S4x2048x1024, .f32⟩
  | 115 => ⟨S4x2048x1024, .f32⟩
  | 116 => ⟨S_, .f32⟩
  | 117 => ⟨S4x2048, .f32⟩
  | 118 => ⟨S4x2048x1, .f32⟩
  | 119 => ⟨S_, .f32⟩
  | 120 => ⟨S4x2048x1, .f32⟩
  | 121 => ⟨S4x2048x1, .f32⟩
  | 122 => ⟨S_, .f32⟩
  | 123 => ⟨S4x2048x1, .f32⟩
  | 124 => ⟨S4x2048x1, .f32⟩
  | 125 => ⟨S4x2048x1, .f32⟩
  | 126 => ⟨S4x2048x1024, .f32⟩
  | 127 => ⟨S4x2048x1024, .f32⟩
  | _ => ⟨S32x256x1024, .f32⟩

abbrev hbmTy0_1 (i : Nat) : BufTy := match i % 128 with
  | 0 => ⟨S1x1x1024, .f32⟩
  | 1 => ⟨S4x2048x1024, .f32⟩
  | 2 => ⟨S4x2048x1024, .f32⟩
  | 3 => ⟨S_, .f32⟩
  | 4 => ⟨S4x1x1024, .f32⟩
  | 5 => ⟨S4x1x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S8192x1024, .f32⟩
  | 11 => ⟨S8192x1024, .f32⟩
  | 12 => ⟨S8192x1024, .bf16⟩
  | 13 => ⟨S16384x1024, .f32⟩
  | 14 => ⟨S16384x1024, .bf16⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_6 : Ref sig .tc := ⟨.hbm, 102, rfl⟩
abbrev main_v82 : Ref sig .tc := ⟨.hbm, 103, rfl⟩
abbrev main_v83 : Ref sig .tc := ⟨.hbm, 104, rfl⟩
abbrev main_cst_7 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_8 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_9 : Ref sig .tc := ⟨.hbm, 116, rfl⟩
abbrev main_v93 : Ref sig .tc := ⟨.hbm, 117, rfl⟩
abbrev main_v94 : Ref sig .tc := ⟨.hbm, 118, rfl⟩
abbrev main_cst_10 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_12 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]
-- ==== Kernel4.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x8 : Shape := ⟨2, ![1024, 8]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S1024x1 : Shape := ⟨2, ![1024, 1]⟩
abbrev S1536 : Shape := ⟨1, ![1536]⟩
abbrev S1x1536 : Shape := ⟨2, ![1, 1536]⟩
abbrev S3x1536 : Shape := ⟨2, ![3, 1536]⟩
abbrev S8x1536 : Shape := ⟨2, ![8, 1536]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x8, .f32⟩
  | .hbm, ⟨9, _⟩ => ⟨S2x1x6144, .f32⟩
  | .hbm, ⟨10, _⟩ => ⟨S2x8x6144, .f32⟩
  | .local _ .vmem, ⟨0, _⟩ => ⟨S1024x8, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024 : Shape := ⟨2, ![1, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S4x6144 : Shape := ⟨2, ![4, 6144]⟩
abbrev S3x6144 : Shape := ⟨2, ![3, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 81
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024x6144, .f32⟩
  | .hbm, ⟨15, _⟩ => ⟨S1024x6144, .f32⟩
  | .hbm, ⟨16, _⟩ => ⟨S1x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S1x1024x6144, .f32⟩
  | .hbm, ⟨31, _⟩ => ⟨S1024x6144, .f32⟩
  | .hbm, ⟨32, _⟩ => ⟨S4x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S4x6144, .f32⟩
  | .hbm, ⟨37, _⟩ => ⟨S4x6144, .f32⟩
  | .hbm, ⟨38, _⟩ => ⟨S_, .f32⟩
  | .hbm, ⟨39, _⟩ => ⟨S3x6144, .f32⟩
  | .hbm, ⟨40, _⟩ => ⟨S8x6144, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S1x1024x6144, .f32⟩
  | .hbm, ⟨52, _⟩ => ⟨S1024x6144, .f32⟩
  | .hbm, ⟨53, _⟩ => ⟨S1x6144, .f32⟩
  | .hbm, ⟨54, _⟩ => ⟨S1x6144, .f32⟩
  | .hbm, ⟨55, _⟩ => ⟨S6144, .f32⟩
  | .hbm, ⟨56, _⟩ => ⟨S1x6144, .f32⟩
  | .hbm, ⟨57, _⟩ => ⟨S1x6144, .f32⟩
  | .hbm, ⟨58, _⟩ => ⟨S4x1024, .f32⟩
  | .hbm, ⟨59, _⟩ => ⟨S4x1024, .f32⟩
  | .hbm, ⟨60, _⟩ => ⟨S_, .f32⟩
  | .hbm, ⟨61, _⟩ => ⟨S4x1024, .f32⟩
  | .hbm, ⟨62, _⟩ => ⟨S4x1024, .f32⟩
  | .hbm, ⟨63, _⟩ => ⟨S_, .f32⟩
  | .hbm, ⟨64, _⟩ => ⟨S4x1024, .f32⟩
  | .hbm, ⟨65, _⟩ => ⟨S4x1024, .f32⟩
  | .hbm, ⟨66, _⟩ => ⟨S4x1024, .f32⟩
  | .hbm, ⟨67, _⟩ => ⟨S1x1024x6144, .f32⟩
  | .hbm, ⟨68, _⟩ => ⟨S1024x6144, .f32⟩
  | .hbm, ⟨69, _⟩ => ⟨S4x6144, .f32⟩
  | .hbm, ⟨70, _⟩ => ⟨S1x6144, .f32⟩
  | .hbm, ⟨71, _⟩ => ⟨S6144, .f32⟩
  | .hbm, ⟨72, _⟩ => ⟨S1x6144, .f32⟩
  | .hbm, ⟨73, _⟩ => ⟨S4x6144, .f32⟩
  | .hbm, ⟨74, _⟩ => ⟨S4x6144, .f32⟩
  | .hbm, ⟨75, _⟩ => ⟨S_, .f32⟩
  | .hbm, ⟨76, _⟩ => ⟨S3x6144, .f32⟩
  | .hbm, ⟨77, _⟩ => ⟨S8x6144, .f32⟩
  | .hbm, ⟨78, _⟩ => ⟨S1x8x6144, .f32⟩
  | .hbm, ⟨79, _⟩ => ⟨S1x8x6144, .f32⟩
  | .hbm, ⟨80, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_0 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Proof.KernelIdealFrame.lean ====
/- The frame of the retention kernel: its executions end, and leave the argument arrays as they were. -/
module

public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x4x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x4x64x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x512 .f32 := Memref.whole cc0_scratch0
abbrev scM0_1 : Memref sig .tc .vmem S256x512 .f32 := Memref.whole cc0_scratch1
abbrev scM0_2 : Memref sig .tc .vmem S2x4x256x128 .f32 := Memref.whole cc0_scratch2
abbrev scM0_3 : Memref sig .tc .vmem S4x128x128 .f32 := Memref.whole cc0_scratch3

/-- The region's invariant: the four scratch buffers owned at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- A run that leaves the region's input arrays as they were leaves the argument arrays unchanged. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

set_option maxHeartbeats 1000000 in
/-- The body's triple: the inputs' buffers are left as they were; the outputs' and the scratch end at some contents. -/
theorem body_run (c : Dev nD) (i : grid0.Coords) (arg1 : Memref sig .tc .vmem S256x1536 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S2x256 .f32) (harg4 : arg4.IsWhole) (arg5 : Memref sig .tc .vmem S2x4x128 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x2x4x64x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S2x4x256x128 .f32) (harg11 : arg11.IsWhole) (arg12 : Memref sig .tc .vmem S4x128x128 .f32) (harg12 : arg12.IsWhole)
    (x0 : Vec F S256x1536 .bf16) (x1 : Vec F S8x128 .f32) (x2 : Vec F S8x128 .f32) (x3 : Vec F S2x256 .f32) (x4 : Vec F S2x4x128 .f32) (x5 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12) K := by
    intro E K
    simp only [cc0_retention_eq_skeleton]; unfold cc0_retention_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The two output windows: this certificate says nothing of what they hold. -/
def forgets0 : Fin 8 → Bool := fun w => w.val == 6 || w.val == 7

/-- The proof data of the region on core `c`: the arrays as the region finds them; each input's buffer holds its block after
    the body, and nothing is said of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The arrays of the proof data are what the region finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's buffer holds its block when the body is entered. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1200000 in
/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row is the body. -/
theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends, with the inputs' arrays as the region found them and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  unchanged_of m ρ (fun c => (dats m 0 c).toRForget forgets0) (A_eq m) (run_main m ρ)

/-- The frame: every execution ends, the argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand
-- ==== Proof.ProjCols.lean ====
/- Where the columns of the packed weights and of the written-out results of the projection come from. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

/-- The projection column behind column `j` of the retention input. -/
def colRet (j : ℕ) : ℕ :=
  if j < 256 then j / 32 % 4 * 64 + j / 128 * 32 + j % 32
  else if j < 512 then 256 + ((j - 256) / 32 % 4 * 64 + (j - 256) / 128 * 32 + j % 32)
  else j

/-- The projection column behind column `j` of the state-space input. -/
def colSsm (j : ℕ) : ℕ :=
  if j < 1024 then 1536 + j else 2560 + (j - 1024) / 128 * 64 + j % 64

/-- The projection column behind column `j` of the gated linear recurrence's input. -/
def colHg (j : ℕ) : ℕ := if j < 512 then 2832 + j else 3856 + j

/-- The projection column behind column `j` of the input kept in full precision (its first 1040 columns). -/
def colPrec (j : ℕ) : ℕ := if j < 1024 then 3344 + j else 1792 + j

theorem colRet_lt (j : Fin 1536) : colRet j.val < 8464 := by
  have := j.isLt; unfold colRet; split_ifs <;> omega
theorem colSsm_lt (j : Fin 1536) : colSsm j.val < 8464 := by
  have := j.isLt; unfold colSsm; split_ifs <;> omega
theorem colHg_lt (j : Fin 1536) : colHg j.val < 8464 := by
  have := j.isLt; unfold colHg; split_ifs <;> omega
theorem colGate_lt (j : Fin 3072) : 5392 + j.val < 8464 := by
  have := j.isLt; omega
theorem colPrec_lt (j : Fin 1152) : colPrec j.val < 8464 := by
  have := j.isLt; unfold colPrec; split_ifs <;> omega

variable (m : (ℓ : Loc nD τ sig) → Buf (Elt Ideal) ℓ)

/-- The projection's weight, as an array of extended reals. -/
abbrev wIn (c : Dev nD) : FVec Ideal S1024x8464 .f32 := m ((c : Thread nD τ).loc main_arg4)

/-- The packed weight of the gated linear recurrence's input, column by column. -/
theorem w_hg (c : Dev nD) (k : Fin 1024) (j : Fin 1536) :
    (V m c main_v33 : FVec Ideal S1024x1536 .bf16) (ix2 k j)
      = wIn m c (ix2 k ⟨colHg j.val, colHg_lt j⟩) := by
  dsimp only [V]
  after_reads_simp
  dsimp only [Matrix.cons_val]
  pointwise
  after_reads_simp
  pointwise
  have hj := j.isLt
  split_ifs <;> blk_ext [colHg]
  all_goals (split_ifs <;> omega)

/-- The packed weight of the gates, column by column. -/
theorem w_gate (c : Dev nD) (k : Fin 1024) (j : Fin 3072) :
    (V m c main_v37 : FVec Ideal S1024x3072 .bf16) (ix2 k j)
      = wIn m c (ix2 k ⟨5392 + j.val, colGate_lt j⟩) := by
  dsimp only [V]
  after_reads_simp
  pointwise

/-- The packed weight of the full-precision input, column by column: the last columns are zero. -/
theorem w_prec (c : Dev nD) (k : Fin 1024) (j : Fin 1152) :
    (V m c main_v36 : FVec Ideal S1024x1152 .bf16) (ix2 k j)
      = (if j.val < 1040 then wIn m c (ix2 k ⟨colPrec j.val, colPrec_lt j⟩) else 0) := by
  dsimp only [V]
  after_reads_simp
  try dsimp only [Matrix.cons_val]
  pointwise
  after_reads_simp
  pointwise
  have hj := j.isLt
  by_cases ha : j.val < 1040
  · rw [if_pos ha]
    split_ifs <;> first
      | omega
      | (blk_ext [colPrec]; split_ifs <;> omega)
  · rw [if_neg ha]
    split_ifs <;> first
      | omega
      | rfl

/-- The retention input's packed weight as the host computes it from the projection's weight. -/
def packRet (w : FVec Ideal S1024x8464 .f32) : FVec Ideal S1024x1536 .bf16 :=
  truncf .bf16 (concatenate S1024x1536 1 [⟨S1024x256, (shapeCast S1024x256 (transpose S1024x2x4x32 [0, 2, 1, 3] (shapeCast S1024x4x2x32 (extractStridedSlice S1024x256 ![0, 0] w slices_S1024x8464_S1024x256_0_0) shapeCasts_S1024x256_S1024x4x2x32) transposes_S1024x4x2x32_S1024x2x4x32_0_2_1_3) shapeCasts_S1024x2x4x32_S1024x256)⟩,
    ⟨S1024x256, mulf (shapeCast S1024x256 (transpose S1024x2x4x32 [0, 2, 1, 3] (shapeCast S1024x4x2x32 (extractStridedSlice S1024x256 ![0, 256] w slices_S1024x8464_S1024x256_0_256) shapeCasts_S1024x256_S1024x4x2x32) transposes_S1024x4x2x32_S1024x2x4x32_0_2_1_3) shapeCasts_S1024x2x4x32_S1024x256) (broadcastInDim S1024x256 ![] bcast_S_S1024x256 (constant S_ .f32 0x3E000000#32))⟩,
    ⟨S1024x512, (extractStridedSlice S1024x512 ![0, 512] w slices_S1024x8464_S1024x512_0_512)⟩, ⟨S1024x512, (extractStridedSlice S1024x512 ![0, 1024] w slices_S1024x8464_S1024x512_0_1024)⟩] concatenates_S1024x256_S1024x256_S1024x512_S1024x512_S1024x1536_d1) bitsLt_bf16_f32

/-- The state-space input's packed weight as the host computes it. -/
def packSsm (w : FVec Ideal S1024x8464 .f32) : FVec Ideal S1024x1536 .bf16 :=
  truncf .bf16 (concatenate S1024x1536 1 [⟨S1024x512, (extractStridedSlice S1024x512 ![0, 1536] w slices_S1024x8464_S1024x512_0_1536)⟩, ⟨S1024x1024, concatenate S1024x1024 1 [
    ⟨S1024x512, (extractStridedSlice S1024x512 ![0, 0] (extractStridedSlice S1024x768 ![0, 2048] w slices_S1024x8464_S1024x768_0_2048) slices_S1024x768_S1024x512_0_0)⟩,
    ⟨S1024x64, (extractStridedSlice S1024x64 ![0, 512] (extractStridedSlice S1024x768 ![0, 2048] w slices_S1024x8464_S1024x768_0_2048) slices_S1024x768_S1024x64_0_512)⟩, ⟨S1024x64, (extractStridedSlice S1024x64 ![0, 512] (extractStridedSlice S1024x768 ![0, 2048] w slices_S1024x8464_S1024x768_0_2048) slices_S1024x768_S1024x64_0_512)⟩,
    ⟨S1024x64, (extractStridedSlice S1024x64 ![0, 576] (extractStridedSlice S1024x768 ![0, 2048] w slices_S1024x8464_S1024x768_0_2048) slices_S1024x768_S1024x64_0_576)⟩, ⟨S1024x64, (extractStridedSlice S1024x64 ![0, 576] (extractStridedSlice S1024x768 ![0, 2048] w slices_S1024x8464_S1024x768_0_2048) slices_S1024x768_S1024x64_0_576)⟩,
    ⟨S1024x64, (extractStridedSlice S1024x64 ![0, 640] (extractStridedSlice S1024x768 ![0, 2048] w slices_S1024x8464_S1024x768_0_2048) slices_S1024x768_S1024x64_0_640)⟩, ⟨S1024x64, (extractStridedSlice S1024x64 ![0, 640] (extractStridedSlice S1024x768 ![0, 2048] w slices_S1024x8464_S1024x768_0_2048) slices_S1024x768_S1024x64_0_640)⟩,
    ⟨S1024x64, (extractStridedSlice S1024x64 ![0, 704] (extractStridedSlice S1024x768 ![0, 2048] w slices_S1024x8464_S1024x768_0_2048) slices_S1024x768_S1024x64_0_704)⟩, ⟨S1024x64, (extractStridedSlice S1024x64 ![0, 704] (extractStridedSlice S1024x768 ![0, 2048] w slices_S1024x8464_S1024x768_0_2048) slices_S1024x768_S1024x64_0_704)⟩]
    concatenates_S1024x512_S1024x64_S1024x64_S1024x64_S1024x64_S1024x64_S1024x64_S1024x64_S1024x64_S1024x1024_d1⟩] concatenates_S1024x512_S1024x1024_S1024x1536_d1) bitsLt_bf16_f32

/-- The host computes the retention input's packed weight by `packRet`. -/
theorem V_ret (c : Dev nD) : (V m c main_v23 : FVec Ideal S1024x1536 .bf16) = packRet (wIn m c) := by
  dsimp only [V]
  after_reads_simp
  dsimp only [Matrix.cons_val]
  try after_reads_simp
  unfold packRet
  rfl

/-- The host computes the state-space input's packed weight by `packSsm`. -/
theorem V_ssm (c : Dev nD) : (V m c main_v31 : FVec Ideal S1024x1536 .bf16) = packSsm (wIn m c) := by
  dsimp only [V]
  after_results_simp <;> (try dsimp only [Matrix.cons_val]) <;> (try after_results_simp)
  unfold packSsm
  rfl

/-- The packed weight of the retention input, column by column: the keys' columns are scaled. -/
theorem packRet_at (w : FVec Ideal S1024x8464 .f32) (k : Fin 1024) (j : Fin 1536) :
    packRet w (ix2 k j)
      = (if j.val < 256 then w (ix2 k ⟨colRet j.val, colRet_lt j⟩)
        else if j.val < 512 then w (ix2 k ⟨colRet j.val, colRet_lt j⟩) * (Ideal.ofBits .f32 0x3E000000#32 : EReal)
        else w (ix2 k ⟨colRet j.val, colRet_lt j⟩)) := by
  pointwise [packRet]
  have hj := j.isLt
  by_cases ha : j.val < 256
  · rw [if_pos ha, dif_pos ha]
    blk_ext [colRet]
    split_ifs <;> omega
  rw [if_neg ha, dif_neg ha]
  by_cases hb : j.val < 512
  · rw [if_pos hb, dif_pos (by omega)]
    refine congrArg (fun z : EReal => z * (Ideal.ofBits .f32 0x3E000000#32 : EReal)) ?_
    blk_ext [colRet]
    split_ifs <;> omega
  rw [if_neg hb, dif_neg (by omega)]
  split_ifs <;> (blk_ext [colRet]; try (split_ifs <;> omega))

set_option maxHeartbeats 2000000 in
/-- The packed weight of the state-space input, column by column: the two groups are each written twice. -/
theorem packSsm_at (w : FVec Ideal S1024x8464 .f32) (k : Fin 1024) (j : Fin 1536) :
    packSsm w (ix2 k j) = w (ix2 k ⟨colSsm j.val, colSsm_lt j⟩) := by
  pointwise [packSsm]
  have hj := j.isLt
  split_ifs <;> (blk_ext [colSsm]; try (split_ifs <;> omega))

variable (x0 : FVec Ideal Cert.Reference2Ideal.S32x256x1024 .f32) (x1 : FVec Ideal Cert.Reference2Ideal.S4x2048x1024 .f32)
  (x2 : FVec Ideal Cert.Reference2Ideal.S8x6x1024 .f32) (x3 : FVec Ideal Cert.Reference2Ideal.S1024 .f32)
  (x4 : FVec Ideal Cert.Reference2Ideal.S1024x8464 .f32)

open Cert.Reference2Ideal.Read

/-- The whole projection of every token, as the reference computes it. -/
abbrev yAll : FVec Ideal Cert.Reference2Ideal.S16384x8464 .f32 := val_main_v56 (F := Ideal) x0 x1 x2 x3 x4

set_option maxHeartbeats 1000000 in
/-- The reference's retention input is the projection's columns rearranged, the keys scaled. -/
theorem r_ret (R : Fin 16384) (j : Fin 1536) :
    val_main_v90 (F := Ideal) x0 x1 x2 x3 x4 (ix2 R j)
      = (if j.val < 256 then yAll x0 x1 x2 x3 x4 (ix2 R ⟨colRet j.val, colRet_lt j⟩)
        else if j.val < 512 then yAll x0 x1 x2 x3 x4 (ix2 R ⟨colRet j.val, colRet_lt j⟩) * (Ideal.ofBits .f32 0x3E000000#32 : EReal)
        else yAll x0 x1 x2 x3 x4 (ix2 R ⟨colRet j.val, colRet_lt j⟩)) := by
  pointwise [val_main_v90, val_main_v88, val_main_v87, val_main_v86, val_main_v85, val_main_v84, val_main_v83, val_main_v82,
    val_main_v81, val_main_v80, val_main_v79, val_main_v78, val_main_v70, val_main_v69, val_main_cst_7, val_main_v60, val_main_v59, val_main_v58, val_main_v57]
  have hj := j.isLt
  by_cases ha : j.val < 256
  · rw [if_pos ha]
    split_ifs <;> first
      | omega
      | (blk_ext [colRet]; split_ifs <;> omega)
  · by_cases hb : j.val < 512
    · rw [if_neg ha, if_pos hb]
      split_ifs <;> first
        | omega
        | (refine congrArg (fun z : EReal => z * (Ideal.ofBits .f32 0x3E000000#32 : EReal)) ?_
           blk_ext [colRet]
           split_ifs <;> omega)
    · rw [if_neg ha, if_neg hb]
      split_ifs <;> first
        | omega
        | (blk_ext [colRet]; split_ifs <;> omega)

set_option maxHeartbeats 2000000 in
/-- The reference's state-space input is the projection's columns, the two groups each written twice. -/
theorem r_ssm (R : Fin 16384) (j : Fin 1536) :
    val_main_v92 (F := Ideal) x0 x1 x2 x3 x4 (ix2 R j) = yAll x0 x1 x2 x3 x4 (ix2 R ⟨colSsm j.val, colSsm_lt j⟩) := by
  pointwise [val_main_v92, val_main_v91, val_main_v77, val_main_v76, val_main_v75, val_main_v74, val_main_v73, val_main_v72, val_main_v71,
    val_main_v62, val_main_v61]
  have hj := j.isLt
  split_ifs <;> (blk_ext [colSsm]; try (split_ifs <;> omega))

set_option maxHeartbeats 1000000 in
/-- The reference's input of the gated linear recurrence is the projection's columns. -/
theorem r_hg (R : Fin 16384) (j : Fin 1536) :
    val_main_v94 (F := Ideal) x0 x1 x2 x3 x4 (ix2 R j) = yAll x0 x1 x2 x3 x4 (ix2 R ⟨colHg j.val, colHg_lt j⟩) := by
  pointwise [val_main_v94, val_main_v93, val_main_v64, val_main_v66, val_main_v67]
  have hj := j.isLt
  split_ifs <;> (blk_ext [colHg]; try (split_ifs <;> omega))

/-- The reference's gates are the projection's last columns. -/
theorem r_gate (R : Fin 16384) (j : Fin 3072) :
    val_main_v95 (F := Ideal) x0 x1 x2 x3 x4 (ix2 R j) = yAll x0 x1 x2 x3 x4 (ix2 R ⟨5392 + j.val, colGate_lt j⟩) := by
  pointwise [val_main_v95, val_main_v68]

set_option maxHeartbeats 1000000 in
/-- The reference's full-precision input is the projection's columns followed by zeros. -/
theorem r_prec (R : Fin 16384) (j : Fin 1152) :
    val_main_v96 (F := Ideal) x0 x1 x2 x3 x4 (ix2 R j)
      = (if j.val < 1040 then yAll x0 x1 x2 x3 x4 (ix2 R ⟨colPrec j.val, colPrec_lt j⟩) else (0 : EReal)) := by
  pointwise [val_main_v96, val_main_v65, val_main_v63, val_main_v89, val_main_cst_8]
  have hj := j.isLt
  by_cases ha : j.val < 1040
  · rw [if_pos ha]
    split_ifs <;> first
      | omega
      | (blk_ext [colPrec]; try (split_ifs <;> omega))
  · rw [if_neg ha]
    split_ifs <;> first
      | omega
      | rfl

end Cert.Kernel2Ideal.Proj
-- ==== Proof.Proj.lean ====
/- The projection kernel computes the reference's projection. -/
module

public import proofs.«01_k».proof.Proof.ProjCols

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

variable (m : (ℓ : Loc nD τ sig) → Buf (Elt Ideal) ℓ)
variable (x0 : FVec Ideal Cert.Reference2Ideal.S32x256x1024 .f32) (x1 : FVec Ideal Cert.Reference2Ideal.S4x2048x1024 .f32)
  (x2 : FVec Ideal Cert.Reference2Ideal.S8x6x1024 .f32) (x3 : FVec Ideal Cert.Reference2Ideal.S1024 .f32)
  (x4 : FVec Ideal Cert.Reference2Ideal.S1024x8464 .f32)

open Cert.Reference2Ideal.Read

/-- The normalised and modulated row of token `R`, as the reference computes it: the prompt's tokens come first. -/
def hid (R : Fin 16384) (k : Fin 1024) : EReal :=
  if h : R.val < 8192 then
    val_main_v25 (F := Ideal) x0 x2 x3 (ix3 ⟨R.val / 256, by omega⟩ ⟨R.val % 256, by omega⟩ k)
  else
    val_main_v53 (F := Ideal) x1 x2 x3 (ix3 ⟨(R.val - 8192) / 2048, by omega⟩ ⟨(R.val - 8192) % 2048, by omega⟩ k)

/-- An entry of the reference's projection is the row's product with a column of the weight. -/
theorem yAll_at (R : Fin 16384) (C : Fin 8464) :
    yAll x0 x1 x2 x3 x4 (ix2 R C) = ∑ k : Fin 1024, hid x0 x1 x2 x3 R k * x4 (ix2 k C) := by
  pointwise [val_main_v56, val_main_v55, val_main_v54, val_main_v27, val_main_v26]
  have hR := R.isLt
  by_cases h : R.val < 8192
  · rw [dif_pos h]
    refine Finset.sum_congr rfl fun k _ => ?_
    rw [hid, dif_pos h]
  · rw [dif_neg h]
    refine Finset.sum_congr rfl fun k _ => ?_
    rw [hid, dif_neg h]

/-- Every window's block index at every grid point. -/
theorem idx : ∀ t : Fin cfg0.N, win0_0.index t = ![min t.val 15, 0] ∧ win0_1.index t = ![t.val - 16, 0]
    ∧ win0_2.index t = ![(t.val - 12) / 4, 0, 0] ∧ win0_3.index t = ![0, 0]
    ∧ win0_4.index t = ![0, 0] ∧ win0_5.index t = ![0, 0] ∧ win0_6.index t = ![0, 0]
    ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The kernel takes the prompt's block at the first sixteen grid points and the sample's block afterwards. -/
theorem sel : ∀ t : Fin cfg0.N, Scalar.cmpi .slt (BitVec.ofNat 32 (grid0.coords t 0).val) 16#32
    = if t.val < 16 then 1#1 else 0#1 :=
  (by decide +kernel : ∀ t : Fin grid0.N, _)

theorem row_lt (t : Fin cfg0.N) (r : Fin 512) : 512 * t.val + r.val < 16384 := by
  have h : t.val < 32 := t.isLt
  omega

/-- The prompt's block at a prompt grid point. -/
theorem blk_0 (c : Dev nD) (t : Fin cfg0.N) (h : t.val < 16) (r : Fin 512) (k : Fin 1024) :
    iblk m c 0 t (ix2 r k) = (m ((c : Thread nD τ).loc main_arg0) : FVec Ideal S32x256x1024 .f32)
      (ix3 ⟨(512 * t.val + r.val) / 256, by have := r.isLt; omega⟩ ⟨(512 * t.val + r.val) % 256, by omega⟩ k) := by
  have hr := r.isLt
  blk_point [iblk, V, idx t]

/-- The sample's block at a sample grid point. -/
theorem blk_1 (c : Dev nD) (t : Fin cfg0.N) (h : ¬ t.val < 16) (r : Fin 512) (k : Fin 1024) :
    iblk m c 1 t (ix2 r k) = (m ((c : Thread nD τ).loc main_arg1) : FVec Ideal S4x2048x1024 .f32)
      (ix3 ⟨(512 * t.val + r.val - 8192) / 2048, by have := row_lt t r; omega⟩ ⟨(512 * t.val + r.val - 8192) % 2048, by omega⟩ k) := by
  have hr := r.isLt
  blk_point [iblk, V, idx t]

/-- The modulation block of a grid point. -/
theorem blk_2 (c : Dev nD) (t : Fin cfg0.N) (q : Fin 6) (k : Fin 1024) :
    iblk m c 2 t (ix3 0 q k) = (m ((c : Thread nD τ).loc main_arg2) : FVec Ideal S8x6x1024 .f32)
      (ix3 ⟨(t.val - 12) / 4, by have h : t.val < 32 := t.isLt; omega⟩ q k) := by
  blk_point [iblk, V, idx t]

/-- The norm's weight. -/
theorem blk_3 (c : Dev nD) (t : Fin cfg0.N) (k : Fin 1024) :
    iblk m c 3 t (ix2 0 k) = (m ((c : Thread nD τ).loc main_arg3) : FVec Ideal S1024 .f32) (ix1 k) := by
  blk_point [iblk, V, idx t]

/-- The reference's modulated row of a prompt's token. -/
theorem v25_at (b : Fin 32) (s : Fin 256) (k : Fin 1024) :
    val_main_v25 (F := Ideal) x0 x2 x3 (ix3 b s k) = x0 (ix3 b s k) * Ideal.rsqrt (Ideal.div (∑ x, x0 (ix3 b s x) * x0 (ix3 b s x)) (Ideal.ofBits FTy.f32 1149239296#32) + Ideal.ofBits FTy.f32 897988541#32)
        * x3 (ix1 k) * (1 + x2 (ix3 0 1 k)) + x2 (ix3 0 0 k) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  try rw [zero_add]

/-- The reference's modulated row of a sample's token. -/
theorem v53_at (b : Fin 4) (s : Fin 2048) (k : Fin 1024) :
    val_main_v53 (F := Ideal) x1 x2 x3 (ix3 b s k) = x1 (ix3 b s k) * Ideal.rsqrt (Ideal.div (∑ x, x1 (ix3 b s x) * x1 (ix3 b s x)) (Ideal.ofBits FTy.f32 1149239296#32) + Ideal.ofBits FTy.f32 897988541#32)
        * x3 (ix1 k) * (1 + x2 (ix3 (⟨1 + b.val, by omega⟩ : Fin 8) 1 k)) + x2 (ix3 (⟨1 + b.val, by omega⟩ : Fin 8) 0 k) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_3, val_main_cst_4, val_main_cst_5, val_main_cst_6]
  try rw [zero_add]

/-- The kernel's modulated row is the reference's. -/
theorem pay5_at (c : Dev nD) (t : Fin cfg0.N) (r : Fin 512) (k : Fin 1024) :
    k0_pay5 (grid0.coords t) (iblk m c 0 t) (iblk m c 1 t) (iblk m c 3 t) (View.ld (iblk m c 2 t) r0_2) (View.ld (iblk m c 2 t) r0_3) (ix2 r k)
      = hid (m ((c : Thread nD τ).loc main_arg0)) (m ((c : Thread nD τ).loc main_arg1)) (m ((c : Thread nD τ).loc main_arg2))
          (m ((c : Thread nD τ).loc main_arg3)) ⟨512 * t.val + r.val, row_lt t r⟩ k := by
  have hr := r.isLt
  by_cases h : t.val < 16
  · have hs := sel t
    rw [if_pos h] at hs
    rw [hid, dif_pos (by show 512 * t.val + r.val < 8192; omega)]
    rw [v25_at]
    pointwise [k0_pay5, hs]
    have h2 := blk_2 m c t
    have e0 : (⟨(t.val - 12) / 4, by omega⟩ : Fin 8) = 0 := Fin.ext (by show (t.val - 12) / 4 = 0; omega)
    rw [blk_3 m c t k]
    simp only [blk_0 m c t h, h2, e0]
  · have hs := sel t
    rw [if_neg h] at hs
    have ht : t.val < 32 := t.isLt
    rw [hid, dif_neg (by show ¬ 512 * t.val + r.val < 8192; omega)]
    rw [v53_at]
    pointwise [k0_pay5, hs]
    have h2 := blk_2 m c t
    have e0 : (⟨(t.val - 12) / 4, by omega⟩ : Fin 8) = ⟨1 + (512 * t.val + r.val - 8192) / 2048, by omega⟩ := Fin.ext (by show (t.val - 12) / 4 = 1 + (512 * t.val + r.val - 8192) / 2048; omega)
    rw [blk_3 m c t k]
    simp only [blk_1 m c t h, h2, e0]

/-- The binary32 pattern of the key scale is one eighth. -/
theorem eighth : (Ideal.ofBits .f32 0x3E000000#32 : EReal) = (((1 : ℝ) / 8 : ℝ) : EReal) := by
  simp [Ideal.ofBits, Ideal.ieee, -EReal.coe_mul]; norm_num

/-- Scaling a column of the weight scales the product: the scale is a finite positive constant. -/
theorem sum_scale {ι : Type} (s : Finset ι) (h w : ι → EReal) :
    ∑ k ∈ s, h k * (w k * (Ideal.ofBits .f32 0x3E000000#32 : EReal)) = (∑ k ∈ s, h k * w k) * (Ideal.ofBits .f32 0x3E000000#32 : EReal) := by
  classical
  rw [eighth]
  induction s using Finset.induction_on with
  | empty => simp
  | insert a s ha ih =>
    rw [Finset.sum_insert ha, Finset.sum_insert ha, ih,
      EReal.right_distrib_of_nonneg_of_ne_top (EReal.coe_nonneg.mpr (by norm_num)) (EReal.coe_ne_top _), mul_assoc]

/-- Loading a whole block is the block. -/
theorem pay5_ld (i : grid0.Coords) (X0 X1 : Vec Ideal S512x1024 .f32) (X3 : Vec Ideal S1x1024 .f32) (s1 s2 : Vec Ideal S1x1x1024 .f32) :
    k0_pay5 i (View.ld X0 r0_0) (View.ld X1 r0_0) (View.ld X3 r0_1) s1 s2 = k0_pay5 i X0 X1 X3 s1 s2 := by
  have e0 : ∀ X : Vec Ideal S512x1024 .f32, View.ld X r0_0 = X := fun X => View.ld_unit_zero (funext fun a => by fin_cases a <;> rfl) _ _
  have e3 : ∀ X : Vec Ideal S1x1024 .f32, View.ld X r0_1 = X := fun X => View.ld_unit_zero (funext fun a => by fin_cases a <;> rfl) _ _
  rw [e0, e0, e3]

/-- The modulated block the frame names is the reference's rows. -/
theorem pay7_at (c : Dev nD) (t : Fin cfg0.N) (r : Fin 512) (k : Fin 1024) :
    k0_pay7 (grid0.coords t) (iblk m c 0 t) (iblk m c 1 t) (iblk m c 2 t) (iblk m c 3 t) (iblk m c 4 t) (iblk m c 5 t) (iblk m c 6 t) (iblk m c 7 t) (iblk m c 8 t) (ix2 r k)
      = hid (m ((c : Thread nD τ).loc main_arg0)) (m ((c : Thread nD τ).loc main_arg1)) (m ((c : Thread nD τ).loc main_arg2))
          (m ((c : Thread nD τ).loc main_arg3)) ⟨512 * t.val + r.val, row_lt t r⟩ k := by
  rw [← pay5_at m c t r k]
  exact congrFun (pay5_ld _ _ _ _ _ _) _

/-- The kernel's retention input block is a block of the reference's. -/
theorem point_9 (c : Dev nD) (t : Fin cfg0.N) (r : Fin 512) (j : Fin 1536) :
    k0_pay6 (grid0.coords t) (iblk m c 0 t) (iblk m c 1 t) (iblk m c 3 t) (View.ld (iblk m c 2 t) r0_2) (View.ld (iblk m c 2 t) r0_3) (iblk m c 4 t) (ix2 r j)
      = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ j) := by
  rw [r_ret]
  have hw : ∀ k : Fin 1024, iblk m c 4 t (ix2 k j) = packRet (wIn m c) (ix2 k j) := fun k => by
    rw [← V_ret]
    blk_point [iblk, idx t]
  pointwise [k0_pay6]
  simp only [pay5_at m c t r, hw, packRet_at, yAll_at]
  by_cases h1 : j.val < 256
  · simp only [if_pos h1]
  · simp only [if_neg h1]
    by_cases h2 : j.val < 512
    · simp only [if_pos h2]
      exact sum_scale _ _ _
    · simp only [if_neg h2]

/-- The kernel's state-space input block is a block of the reference's. -/
theorem point_10 (c : Dev nD) (t : Fin cfg0.N) (r : Fin 512) (j : Fin 1536) :
    k0_pay1 (k0_pay7 (grid0.coords t) (iblk m c 0 t) (iblk m c 1 t) (iblk m c 2 t) (iblk m c 3 t) (iblk m c 4 t) (iblk m c 5 t) (iblk m c 6 t) (iblk m c 7 t) (iblk m c 8 t)) (iblk m c 5 t) (ix2 r j)
      = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ j) := by
  rw [r_ssm]
  have hw : ∀ k : Fin 1024, iblk m c 5 t (ix2 k j) = wIn m c (ix2 k ⟨colSsm j.val, colSsm_lt j⟩) := fun k => by
    rw [← packSsm_at (wIn m c) k j, ← V_ssm]
    blk_point [iblk, idx t]
  pointwise [k0_pay1]
  simp only [pay7_at m c t r, hw, yAll_at]

/-- The kernel's gated linear input block is a block of the reference's. -/
theorem point_11 (c : Dev nD) (t : Fin cfg0.N) (r : Fin 512) (j : Fin 1536) :
    k0_pay2 (k0_pay7 (grid0.coords t) (iblk m c 0 t) (iblk m c 1 t) (iblk m c 2 t) (iblk m c 3 t) (iblk m c 4 t) (iblk m c 5 t) (iblk m c 6 t) (iblk m c 7 t) (iblk m c 8 t)) (iblk m c 6 t) (ix2 r j)
      = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ j) := by
  rw [r_hg]
  have hw : ∀ k : Fin 1024, iblk m c 6 t (ix2 k j) = wIn m c (ix2 k ⟨colHg j.val, colHg_lt j⟩) := fun k => by
    rw [← w_hg m c k j]
    blk_point [iblk, idx t]
  pointwise [k0_pay2]
  simp only [pay7_at m c t r, hw, yAll_at]

/-- The kernel's branch gate block is a block of the reference's. -/
theorem point_12 (c : Dev nD) (t : Fin cfg0.N) (r : Fin 512) (j : Fin 3072) :
    k0_pay3 (k0_pay7 (grid0.coords t) (iblk m c 0 t) (iblk m c 1 t) (iblk m c 2 t) (iblk m c 3 t) (iblk m c 4 t) (iblk m c 5 t) (iblk m c 6 t) (iblk m c 7 t) (iblk m c 8 t)) (iblk m c 7 t) (ix2 r j)
      = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ j) := by
  rw [r_gate]
  have hw : ∀ k : Fin 1024, iblk m c 7 t (ix2 k j) = wIn m c (ix2 k ⟨5392 + j.val, colGate_lt j⟩) := fun k => by
    rw [← w_gate m c k j]
    blk_point [iblk, idx t]
  pointwise [k0_pay3]
  simp only [pay7_at m c t r, hw, yAll_at]

/-- The kernel's forget and step-size block is a block of the reference's. -/
theorem point_13 (c : Dev nD) (t : Fin cfg0.N) (r : Fin 512) (j : Fin 1152) :
    k0_pay4 (k0_pay7 (grid0.coords t) (iblk m c 0 t) (iblk m c 1 t) (iblk m c 2 t) (iblk m c 3 t) (iblk m c 4 t) (iblk m c 5 t) (iblk m c 6 t) (iblk m c 7 t) (iblk m c 8 t)) (iblk m c 8 t) (ix2 r j)
      = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ j) := by
  rw [r_prec]
  have hw : ∀ k : Fin 1024, iblk m c 8 t (ix2 k j) = (if j.val < 1040 then wIn m c (ix2 k ⟨colPrec j.val, colPrec_lt j⟩) else 0) := fun k => by
    rw [← w_prec m c k j]
    blk_point [iblk, idx t]
  pointwise [k0_pay4]
  simp only [pay7_at m c t r, hw, yAll_at]
  by_cases h1 : j.val < 1040
  · simp only [if_pos h1]
  · simp only [if_neg h1, mul_zero, Finset.sum_const_zero]

/-- The array the run leaves for window 9 is the reference's result. -/
theorem final_9 (c : Dev nD) : (dats m 0 c).arrAt 9 (cfgs 0).N = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]; frame_out
  idx_vars y
  refine Eq.trans ?_ ((point_9 m c t ‹_› ‹_›).trans ?_)
  · rfl
  · refine congrArg _ ?_
    blk_ext [idx t]

/-- The array the run leaves for window 10 is the reference's result. -/
theorem final_10 (c : Dev nD) : (dats m 0 c).arrAt 10 (cfgs 0).N = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]; frame_out
  idx_vars y
  refine Eq.trans ?_ ((point_10 m c t ‹_› ‹_›).trans ?_)
  · rfl
  · refine congrArg _ ?_
    blk_ext [idx t]

/-- The array the run leaves for window 11 is the reference's result. -/
theorem final_11 (c : Dev nD) : (dats m 0 c).arrAt 11 (cfgs 0).N = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp; rw [after0_11]; frame_out
  idx_vars y
  refine Eq.trans ?_ ((point_11 m c t ‹_› ‹_›).trans ?_)
  · rfl
  · refine congrArg _ ?_
    blk_ext [idx t]

/-- The array the run leaves for window 12 is the reference's result. -/
theorem final_12 (c : Dev nD) : (dats m 0 c).arrAt 12 (cfgs 0).N = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp; rw [after0_12]; frame_out
  idx_vars y
  refine Eq.trans ?_ ((point_12 m c t ‹_› ‹_›).trans ?_)
  · rfl
  · refine congrArg _ ?_
    blk_ext [idx t]

/-- The array the run leaves for window 13 is the reference's result. -/
theorem final_13 (c : Dev nD) : (dats m 0 c).arrAt 13 (cfgs 0).N = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp; rw [after0_13]; frame_out
  idx_vars y
  refine Eq.trans ?_ ((point_13 m c t ‹_› ‹_›).trans ?_)
  · rfl
  · refine congrArg _ ?_
    blk_ext [idx t]

end Cert.Kernel2Ideal.Proj
-- ==== Proof.Mrg.lean ====
/- The merge kernel computes the reference's merged branches. -/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Mrg

open Cert.Kernel3Ideal Cert.Kernel3Ideal.Gen

open Cert.Reference3Ideal.Read

variable (x0 : FVec Ideal Cert.Reference3Ideal.S32x256x1024 .f32) (x1 : FVec Ideal Cert.Reference3Ideal.S4x2048x1024 .f32) (x2 : FVec Ideal Cert.Reference3Ideal.S8x6x1024 .f32) (x3 : FVec Ideal Cert.Reference3Ideal.S1024 .f32) (x4 : FVec Ideal Cert.Reference3Ideal.S8192x512 .bf16) (x5 : FVec Ideal Cert.Reference3Ideal.S8192x512 .bf16) (x6 : FVec Ideal Cert.Reference3Ideal.S8192x512 .bf16) (x7 : FVec Ideal Cert.Reference3Ideal.S8192x512 .bf16) (x8 : FVec Ideal Cert.Reference3Ideal.S8192x512 .bf16) (x9 : FVec Ideal Cert.Reference3Ideal.S8192x512 .bf16) (x10 : FVec Ideal Cert.Reference3Ideal.S16384x3072 .bf16) (x11 : FVec Ideal Cert.Reference3Ideal.S3x512x1024 .f32) (x12 : FVec Ideal Cert.Reference3Ideal.S1024x1024 .f32)

/-- The logistic function, spelled with an exponential and a quotient. -/
def sg (x : EReal) : EReal := Ideal.div 1 (1 + Ideal.exp (-x))

/-- A token's merged branches: each branch's product with its weight, gated by the logistic of its logit. `R` is the
    token's row in the gates and `r` its row in the branches. -/
def mer (gl : FVec Ideal Cert.Reference3Ideal.S16384x3072 .bf16) (w : FVec Ideal Cert.Reference3Ideal.S3x512x1024 .f32)
    (a b e : FVec Ideal Cert.Reference3Ideal.S8192x512 .bf16) (R : Fin 16384) (r : Fin 8192) (k : Fin 1024) : EReal :=
  sg (gl (ix2 R ⟨k.val, by omega⟩)) * (∑ x : Fin 512, a (ix2 r x) * w (ix3 0 x k))
    + sg (gl (ix2 R ⟨1024 + k.val, by omega⟩)) * (∑ x : Fin 512, b (ix2 r x) * w (ix3 1 x k))
    + sg (gl (ix2 R ⟨2048 + k.val, by omega⟩)) * (∑ x : Fin 512, e (ix2 r x) * w (ix3 2 x k))

/-- The reference's merged branches of a prompt's token. -/
theorem v30_at (b : Fin 32) (s : Fin 256) (k : Fin 1024) :
    val_main_v30 (F := Ideal) x4 x6 x8 x10 x11 (ix3 b s k)
      = mer x10 x11 x4 x6 x8 ⟨b.val * 256 + s.val, by omega⟩ ⟨b.val * 256 + s.val, by omega⟩ k := by
  pointwise [val_main_v30, val_main_v29, val_main_cst_1]
  simp only [Fin.sum_univ_three]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst, val_main_cst_0, val_main_v1]
  simp only [mer, sg, mul_comm (x11 _)]

/-- The reference's merged branches of a sample's token. -/
theorem v87_at (b : Fin 4) (s : Fin 2048) (k : Fin 1024) :
    val_main_v87 (F := Ideal) x5 x7 x9 x10 x11 (ix3 b s k)
      = mer x10 x11 x5 x7 x9 ⟨8192 + (b.val * 2048 + s.val), by omega⟩ ⟨b.val * 2048 + s.val, by omega⟩ k := by
  pointwise [val_main_v87, val_main_v86, val_main_cst_8]
  simp only [Fin.sum_univ_three]
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_6, val_main_cst_7, val_main_v58]
  simp only [mer, sg, mul_comm (x11 _)]

/-- The reference's new residual of a prompt's token. -/
theorem v34_at (b : Fin 32) (s : Fin 256) (d : Fin 1024) :
    val_main_v34 (F := Ideal) x0 x2 x4 x6 x8 x10 x11 x12 (ix3 b s d)
      = x0 (ix3 b s d) + x2 (ix3 0 2 d) * ∑ k : Fin 1024, mer x10 x11 x4 x6 x8 ⟨b.val * 256 + s.val, by omega⟩ ⟨b.val * 256 + s.val, by omega⟩ k * x12 (ix2 k d) := by
  simp only [← v30_at]
  pointwise [val_main_v34, val_main_v33, val_main_v32, val_main_v31, val_main_v4, val_main_v3, val_main_v2, val_main_v0]

/-- The reference's new residual of a sample's token. -/
theorem v91_at (b : Fin 4) (s : Fin 2048) (d : Fin 1024) :
    val_main_v91 (F := Ideal) x1 x2 x5 x7 x9 x10 x11 x12 (ix3 b s d)
      = x1 (ix3 b s d) + x2 (ix3 ⟨1 + b.val, by omega⟩ 2 d) * ∑ k : Fin 1024, mer x10 x11 x5 x7 x9 ⟨8192 + (b.val * 2048 + s.val), by omega⟩ ⟨b.val * 2048 + s.val, by omega⟩ k * x12 (ix2 k d) := by
  simp only [← v87_at]
  pointwise [val_main_v91, val_main_v90, val_main_v89, val_main_v88, val_main_v61, val_main_v60, val_main_v59, val_main_v57]

/-- The reference's second normalised row of a prompt's token, from its new residual. -/
theorem v53_at (b : Fin 32) (s : Fin 256) (d : Fin 1024) :
    val_main_v53 (F := Ideal) x0 x2 x3 x4 x6 x8 x10 x11 x12 (ix3 b s d) = val_main_v34 (F := Ideal) x0 x2 x4 x6 x8 x10 x11 x12 (ix3 b s d) * Ideal.rsqrt (Ideal.div (∑ x, val_main_v34 (F := Ideal) x0 x2 x4 x6 x8 x10 x11 x12 (ix3 b s x) * val_main_v34 (F := Ideal) x0 x2 x4 x6 x8 x10 x11 x12 (ix3 b s x)) (Ideal.ofBits FTy.f32 1149239296#32) + Ideal.ofBits FTy.f32 897988541#32)
        * x3 (ix1 d) * (1 + x2 (ix3 0 4 d)) + x2 (ix3 0 3 d) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_2, val_main_cst_3, val_main_cst_4, val_main_cst_5, val_main_v10, val_main_v9, val_main_v8, val_main_v7, val_main_v6, val_main_v5, val_main_v0]

/-- The reference's second normalised row of a sample's token, from its new residual. -/
theorem v110_at (b : Fin 4) (s : Fin 2048) (d : Fin 1024) :
    val_main_v110 (F := Ideal) x1 x2 x3 x5 x7 x9 x10 x11 x12 (ix3 b s d) = val_main_v91 (F := Ideal) x1 x2 x5 x7 x9 x10 x11 x12 (ix3 b s d) * Ideal.rsqrt (Ideal.div (∑ x, val_main_v91 (F := Ideal) x1 x2 x5 x7 x9 x10 x11 x12 (ix3 b s x) * val_main_v91 (F := Ideal) x1 x2 x5 x7 x9 x10 x11 x12 (ix3 b s x)) (Ideal.ofBits FTy.f32 1149239296#32) + Ideal.ofBits FTy.f32 897988541#32)
        * x3 (ix1 d) * (1 + x2 (ix3 (⟨1 + b.val, by omega⟩ : Fin 8) 4 d)) + x2 (ix3 (⟨1 + b.val, by omega⟩ : Fin 8) 3 d) := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_cst_9, val_main_cst_10, val_main_cst_11, val_main_cst_12, val_main_v67, val_main_v66, val_main_v65, val_main_v64, val_main_v63, val_main_v62, val_main_v57]

/-- A token's new residual as the reference computes it: the prompt's tokens come first. -/
def xo (R : Fin 16384) (d : Fin 1024) : EReal :=
  if h : R.val < 8192 then val_main_v34 (F := Ideal) x0 x2 x4 x6 x8 x10 x11 x12 (ix3 ⟨R.val / 256, by omega⟩ ⟨R.val % 256, by omega⟩ d)
  else val_main_v91 (F := Ideal) x1 x2 x5 x7 x9 x10 x11 x12 (ix3 ⟨(R.val - 8192) / 2048, by omega⟩ ⟨(R.val - 8192) % 2048, by omega⟩ d)

/-- The row of the modulation a token uses. -/
def md (R : Fin 16384) : Fin 8 := ⟨if R.val < 8192 then 0 else 1 + (R.val - 8192) / 2048, by split_ifs <;> omega⟩

/-- The reference's first result, token by token. -/
theorem v114_at (R : Fin 16384) (d : Fin 1024) :
    val_main_v114 (F := Ideal) x0 x1 x2 x4 x5 x6 x7 x8 x9 x10 x11 x12 (ix2 R d) = xo x0 x1 x2 x4 x5 x6 x7 x8 x9 x10 x11 x12 R d := by
  pointwise [val_main_v114, val_main_v54, val_main_v111, xo]

/-- The reference's second result, token by token. -/
theorem v115_at (R : Fin 16384) (d : Fin 1024) :
    val_main_v115 (F := Ideal) x0 x1 x2 x3 x4 x5 x6 x7 x8 x9 x10 x11 x12 (ix2 R d) = xo x0 x1 x2 x4 x5 x6 x7 x8 x9 x10 x11 x12 R d * Ideal.rsqrt (Ideal.div (∑ x, xo x0 x1 x2 x4 x5 x6 x7 x8 x9 x10 x11 x12 R x * xo x0 x1 x2 x4 x5 x6 x7 x8 x9 x10 x11 x12 R x) (Ideal.ofBits FTy.f32 1149239296#32) + Ideal.ofBits FTy.f32 897988541#32)
        * x3 (ix1 d) * (1 + x2 (ix3 (md R) 4 d)) + x2 (ix3 (md R) 3 d) := by
  pointwise [val_main_v115, val_main_v56, val_main_v55, val_main_v113, val_main_v112]
  have hR := R.isLt
  by_cases h : R.val < 8192
  · have e : md R = 0 := Fin.ext (by show (if R.val < 8192 then 0 else _) = 0; rw [if_pos h])
    rw [dif_pos h, v53_at, e]
    simp only [xo, dif_pos h]
  · have e : md R = ⟨1 + (R.val - 8192) / 2048, by omega⟩ := Fin.ext (by show (if R.val < 8192 then 0 else _) = _; rw [if_neg h])
    rw [dif_neg h, v110_at, e]
    simp only [xo, dif_neg h]

variable (m : (ℓ : Loc nD τ sig) → Buf (Elt Ideal) ℓ)

/-- Every window's block index at every grid point. -/
theorem idx : ∀ t : Fin cfg0.N, win0_0.index t = ![min t.val 15, 0] ∧ win0_1.index t = ![t.val - 16, 0]
    ∧ win0_2.index t = ![(t.val - 12) / 4, 0, 0] ∧ win0_3.index t = ![0, 0]
    ∧ win0_4.index t = ![min t.val 15, 0] ∧ win0_5.index t = ![t.val - 16, 0]
    ∧ win0_6.index t = ![min t.val 15, 0] ∧ win0_7.index t = ![t.val - 16, 0]
    ∧ win0_8.index t = ![min t.val 15, 0] ∧ win0_9.index t = ![t.val - 16, 0]
    ∧ win0_10.index t = ![t.val, 0] ∧ win0_11.index t = ![0, 0, 0] ∧ win0_12.index t = ![0, 0]
    ∧ win0_13.index t = ![t.val, 0] ∧ win0_14.index t = ![t.val, 0] :=
  (by decide +kernel : ∀ t : Fin grid0.N, _)

/-- The kernel takes the prompt's block at the first sixteen grid points and the sample's block afterwards. -/
theorem sel : ∀ t : Fin cfg0.N, Scalar.cmpi .slt (BitVec.ofNat 32 (grid0.coords t 0).val) 16#32
    = if t.val < 16 then 1#1 else 0#1 :=
  (by decide +kernel : ∀ t : Fin grid0.N, _)

theorem row_lt (t : Fin cfg0.N) (r : Fin 512) : 512 * t.val + r.val < 16384 := by
  have h : t.val < 32 := t.isLt
  omega

/-- The prompt's block at a prompt grid point. -/
theorem blk_0 (c : Dev nD) (t : Fin cfg0.N) (h : t.val < 16) (r : Fin 512) (k : Fin 1024) :
    iblk m c 0 t (ix2 r k) = (m ((c : Thread nD τ).loc main_arg0) : FVec Ideal S32x256x1024 .f32)
      (ix3 ⟨(512 * t.val + r.val) / 256, by have := r.isLt; omega⟩ ⟨(512 * t.val + r.val) % 256, by omega⟩ k) := by
  have hr := r.isLt
  blk_point [iblk, V, idx t]

/-- The sample's block at a sample grid point. -/
theorem blk_1 (c : Dev nD) (t : Fin cfg0.N) (h : ¬ t.val < 16) (r : Fin 512) (k : Fin 1024) :
    iblk m c 1 t (ix2 r k) = (m ((c : Thread nD τ).loc main_arg1) : FVec Ideal S4x2048x1024 .f32)
      (ix3 ⟨(512 * t.val + r.val - 8192) / 2048, by have := row_lt t r; omega⟩ ⟨(512 * t.val + r.val - 8192) % 2048, by omega⟩ k) := by
  have hr := r.isLt
  blk_point [iblk, V, idx t]

/-- The modulation block of a grid point. -/
theorem blk_2 (c : Dev nD) (t : Fin cfg0.N) (q : Fin 6) (k : Fin 1024) (r : Fin 512) :
    iblk m c 2 t (ix3 0 q k) = (m ((c : Thread nD τ).loc main_arg2) : FVec Ideal S8x6x1024 .f32)
      (ix3 (md ⟨512 * t.val + r.val, row_lt t r⟩) q k) := by
  have ht : t.val < 32 := t.isLt
  have hr := r.isLt
  have e : md ⟨512 * t.val + r.val, row_lt t r⟩ = ⟨(t.val - 12) / 4, by omega⟩ := Fin.ext (by
    show (if 512 * t.val + r.val < 8192 then 0 else 1 + (512 * t.val + r.val - 8192) / 2048) = (t.val - 12) / 4
    split_ifs <;> omega)
  rw [e]
  blk_point [iblk, V, idx t]

/-- The norm's weight. -/
theorem blk_3 (c : Dev nD) (t : Fin cfg0.N) (k : Fin 1024) :
    iblk m c 3 t (ix2 0 k) = (m ((c : Thread nD τ).loc main_arg3) : FVec Ideal S1024 .f32) (ix1 k) := by
  blk_point [iblk, V, idx t]

/-- A branch's block at a prompt grid point. -/
theorem blk_4 (c : Dev nD) (t : Fin cfg0.N) (h : t.val < 16) (r x : Fin 512) :
    iblk m c 4 t (ix2 r x) = (m ((c : Thread nD τ).loc main_arg4) : FVec Ideal S8192x512 .bf16)
      (ix2 ⟨512 * t.val + r.val, by have := r.isLt; omega⟩ x) := by
  have hr := r.isLt
  blk_point [iblk, V, idx t]

/-- A branch's block at a sample grid point. -/
theorem blk_5 (c : Dev nD) (t : Fin cfg0.N) (h : ¬ t.val < 16) (r x : Fin 512) :
    iblk m c 5 t (ix2 r x) = (m ((c : Thread nD τ).loc main_arg5) : FVec Ideal S8192x512 .bf16)
      (ix2 ⟨512 * t.val + r.val - 8192, by have := row_lt t r; omega⟩ x) := by
  have hr := r.isLt
  blk_point [iblk, V, idx t]

/-- A branch's block at a prompt grid point. -/
theorem blk_6 (c : Dev nD) (t : Fin cfg0.N) (h : t.val < 16) (r x : Fin 512) :
    iblk m c 6 t (ix2 r x) = (m ((c : Thread nD τ).loc main_arg6) : FVec Ideal S8192x512 .bf16)
      (ix2 ⟨512 * t.val + r.val, by have := r.isLt; omega⟩ x) := by
  have hr := r.isLt
  blk_point [iblk, V, idx t]

/-- A branch's block at a sample grid point. -/
theorem blk_7 (c : Dev nD) (t : Fin cfg0.N) (h : ¬ t.val < 16) (r x : Fin 512) :
    iblk m c 7 t (ix2 r x) = (m ((c : Thread nD τ).loc main_arg7) : FVec Ideal S8192x512 .bf16)
      (ix2 ⟨512 * t.val + r.val - 8192, by have := row_lt t r; omega⟩ x) := by
  have hr := r.isLt
  blk_point [iblk, V, idx t]

/-- A branch's block at a prompt grid point. -/
theorem blk_8 (c : Dev nD) (t : Fin cfg0.N) (h : t.val < 16) (r x : Fin 512) :
    iblk m c 8 t (ix2 r x) = (m ((c : Thread nD τ).loc main_arg8) : FVec Ideal S8192x512 .bf16)
      (ix2 ⟨512 * t.val + r.val, by have := r.isLt; omega⟩ x) := by
  have hr := r.isLt
  blk_point [iblk, V, idx t]

/-- A branch's block at a sample grid point. -/
theorem blk_9 (c : Dev nD) (t : Fin cfg0.N) (h : ¬ t.val < 16) (r x : Fin 512) :
    iblk m c 9 t (ix2 r x) = (m ((c : Thread nD τ).loc main_arg9) : FVec Ideal S8192x512 .bf16)
      (ix2 ⟨512 * t.val + r.val - 8192, by have := row_lt t r; omega⟩ x) := by
  have hr := r.isLt
  blk_point [iblk, V, idx t]

/-- The gates' block at a grid point. -/
theorem blk_10 (c : Dev nD) (t : Fin cfg0.N) (r : Fin 512) (x : Fin 3072) :
    iblk m c 10 t (ix2 r x) = (m ((c : Thread nD τ).loc main_arg10) : FVec Ideal S16384x3072 .bf16)
      (ix2 ⟨512 * t.val + r.val, row_lt t r⟩ x) := by
  blk_point [iblk, V, idx t]

/-- The branches' weights. -/
theorem blk_11 (c : Dev nD) (t : Fin cfg0.N) (n : Fin 3) (x : Fin 512) (k : Fin 1024) :
    iblk m c 11 t (ix3 n x k) = (m ((c : Thread nD τ).loc main_arg11) : FVec Ideal S3x512x1024 .f32) (ix3 n x k) := by
  blk_point [iblk, V, idx t]

/-- The output weight. -/
theorem blk_12 (c : Dev nD) (t : Fin cfg0.N) (x : Fin 1024) (k : Fin 1024) :
    iblk m c 12 t (ix2 x k) = (m ((c : Thread nD τ).loc main_arg12) : FVec Ideal S1024x1024 .f32) (ix2 x k) := by
  blk_point [iblk, V, idx t]

/-- The kernel's new residual is the reference's. -/
theorem pay1_at (c : Dev nD) (t : Fin cfg0.N) (r : Fin 512) (d : Fin 1024) :
    k0_pay1 (k0_pay8 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay9 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 2 t) r0_9) (ix2 r d)
      = xo (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨512 * t.val + r.val, row_lt t r⟩ d := by
  have hr := r.isLt
  have ht : t.val < 32 := t.isLt
  have hs := sel t
  by_cases h : t.val < 16
  · rw [if_pos h] at hs
    rw [xo, dif_pos (by show 512 * t.val + r.val < 8192; omega), v34_at]
    pointwise [k0_pay1, k0_pay8, k0_pay9, k0_pay7, k0_pay6, k0_pay5, k0_pay4, k0_pay3, hs]
    have e1 : (⟨(512 * t.val + r.val) / 256 * 256 + (512 * t.val + r.val) % 256, by omega⟩ : Fin 16384) = ⟨512 * t.val + r.val, by omega⟩ := Fin.ext (by show (512 * t.val + r.val) / 256 * 256 + (512 * t.val + r.val) % 256 = 512 * t.val + r.val; omega)
    have e2 : (⟨(512 * t.val + r.val) / 256 * 256 + (512 * t.val + r.val) % 256, by omega⟩ : Fin 8192) = ⟨512 * t.val + r.val, by omega⟩ := Fin.ext (by show (512 * t.val + r.val) / 256 * 256 + (512 * t.val + r.val) % 256 = 512 * t.val + r.val; omega)
    have e3 : md ⟨512 * t.val + r.val, row_lt t r⟩ = 0 := Fin.ext (by show (if 512 * t.val + r.val < 8192 then 0 else _) = 0; rw [if_pos (by omega)])
    rw [e1, e2, blk_0 m c t h, blk_2 m c t 2 d r, e3]
    simp only [mer, sg, blk_4 m c t h, blk_6 m c t h, blk_8 m c t h, blk_10, blk_11, blk_12, zero_sub]
  · rw [if_neg h] at hs
    rw [xo, dif_neg (by show ¬ 512 * t.val + r.val < 8192; omega), v91_at]
    pointwise [k0_pay1, k0_pay8, k0_pay9, k0_pay7, k0_pay6, k0_pay5, k0_pay4, k0_pay3, hs]
    have e1 : (⟨8192 + ((512 * t.val + r.val - 8192) / 2048 * 2048 + (512 * t.val + r.val - 8192) % 2048), by omega⟩ : Fin 16384) = ⟨512 * t.val + r.val, by omega⟩ := Fin.ext (by show 8192 + ((512 * t.val + r.val - 8192) / 2048 * 2048 + (512 * t.val + r.val - 8192) % 2048) = 512 * t.val + r.val; omega)
    have e2 : (⟨(512 * t.val + r.val - 8192) / 2048 * 2048 + (512 * t.val + r.val - 8192) % 2048, by omega⟩ : Fin 8192) = ⟨512 * t.val + r.val - 8192, by omega⟩ := Fin.ext (by show (512 * t.val + r.val - 8192) / 2048 * 2048 + (512 * t.val + r.val - 8192) % 2048 = 512 * t.val + r.val - 8192; omega)
    have e3 : md ⟨512 * t.val + r.val, row_lt t r⟩ = ⟨1 + (512 * t.val + r.val - 8192) / 2048, by omega⟩ := Fin.ext (by show (if 512 * t.val + r.val < 8192 then 0 else _) = _; rw [if_neg (by omega)])
    rw [e1, e2, blk_1 m c t h, blk_2 m c t 2 d r, e3]
    simp only [mer, sg, blk_5 m c t h, blk_7 m c t h, blk_9 m c t h, blk_10, blk_11, blk_12, zero_sub]

/-- The kernel's second normalised row is the reference's. -/
theorem pay2_at (c : Dev nD) (t : Fin cfg0.N) (r : Fin 512) (d : Fin 1024) :
    k0_pay2 (k0_pay8 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay9 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 2 t) r0_9) (iblk m c 3 t) (View.ld (iblk m c 2 t) r0_11) (View.ld (iblk m c 2 t) r0_12) (ix2 r d)
      = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 ⟨512 * t.val + r.val, row_lt t r⟩ d) := by
  rw [v115_at]
  have h1 := pay1_at m c t r
  pointwise [k0_pay2, h1]
  rw [blk_3, blk_2 m c t 4 d r, blk_2 m c t 3 d r]

/-- The array the run leaves for window 13 is the reference's result. -/
theorem final_13 (c : Dev nD) : (dats m 0 c).arrAt 13 (cfgs 0).N = val_main_v114 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  blk_simp; rw [after0_13]; frame_out
  idx_vars y
  refine Eq.trans ?_ (((pay1_at m c t ‹_› ‹_›).trans (v114_at _ _ _ _ _ _ _ _ _ _ _ _ _ _).symm).trans ?_)
  · rfl
  · refine congrArg _ ?_
    blk_ext [idx t]

/-- The array the run leaves for window 14 is the reference's result. -/
theorem final_14 (c : Dev nD) : (dats m 0 c).arrAt 14 (cfgs 0).N = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf y => ?_
  blk_simp; rw [after0_14]; frame_out
  idx_vars y
  refine Eq.trans ?_ ((pay2_at m c t ‹_› ‹_›).trans ?_)
  · rfl
  · refine congrArg _ ?_
    blk_ext [idx t]

end Cert.Kernel3Ideal.Mrg
-- ==== Proof.Ada.lean ====
/- The modulation kernel computes the reference's modulation rows. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Ada

open Cert.Kernel4Ideal Cert.Kernel4Ideal.Gen
open Cert.Reference4Ideal.Read

/-- The gated conditioning entry. -/
def si (z : EReal) : EReal := z * Ideal.div 1 (1 + Ideal.exp (-z))

/-- A modulation row's entry: the gated conditioning row's product with the layer's weight, and the bias; zero in the rows
    that belong to no sequence. The first row is the prompts', the next four the samples'. -/
def adm (x0 : FVec Ideal S4x1024 .f32) (x1 : FVec Ideal S1024 .f32) (x2 : FVec Ideal S2x1024x6144 .f32) (x3 : FVec Ideal S2x6144 .f32)
    (i : Fin 2) (r : Fin 8) (n : Fin 6144) : EReal :=
  if r.val < 1 then (∑ k : Fin 1024, si (x1 (ix1 k)) * x2 (ix3 i k n)) + x3 (ix2 i n)
  else if h : r.val < 5 then (∑ k : Fin 1024, si (x0 (ix2 ⟨r.val - 1, by omega⟩ k)) * x2 (ix3 i k n)) + x3 (ix2 i n)
  else 0

/-- The reference's modulation rows, entry by entry. -/
theorem v42_at (x0 : FVec Ideal S4x1024 .f32) (x1 : FVec Ideal S1024 .f32) (x2 : FVec Ideal S2x1024x6144 .f32) (x3 : FVec Ideal S2x6144 .f32)
    (i : Fin 2) (r : Fin 8) (n : Fin 6144) : val_main_v42 (F := Ideal) x0 x1 x2 x3 (ix3 i r n) = adm x0 x1 x2 x3 i r n := by
  pointwise [val_main_v42, val_main_v41, val_main_v40, val_main_v39, val_main_v38, val_main_cst_0, val_main_v37, val_main_v36, val_main_v35, val_main_v34, val_main_v33, val_main_v32, val_main_v31, val_main_v30, val_main_v29, val_main_call3_v5, val_main_call3_v4, val_main_call3_cst_0, val_main_call3_v3, val_main_call3_v2, val_main_call3_cst, val_main_call3_v1, val_main_call3_v0, val_main_v28, val_main_v27, val_main_v26, val_main_v25, val_main_v24, val_main_v23, val_main_v22, val_main_v21, val_main_v20, val_main_call2_v5, val_main_call2_v4, val_main_call2_cst_0, val_main_call2_v3, val_main_call2_v2, val_main_call2_cst, val_main_call2_v1, val_main_call2_v0, val_main_v19, val_main_v18, val_main_cst, val_main_v17, val_main_v16, val_main_v15, val_main_v14, val_main_v13, val_main_v12, val_main_v11, val_main_v10, val_main_v9, val_main_call1_v5, val_main_call1_v4, val_main_call1_cst_0, val_main_call1_v3, val_main_call1_v2, val_main_call1_cst, val_main_call1_v1, val_main_call1_v0, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  rcases (by omega : i.val = 0 ∨ i.val = 1) with h | h
  · obtain rfl : i = 0 := Fin.ext h
    rw [dif_pos (by decide)]
    simp only [adm, si]
    by_cases h1 : r.val < 1
    · rw [dif_pos h1, if_pos h1]
    · rw [dif_neg h1, if_neg h1]
      by_cases h2 : r.val < 5
      · rw [dif_pos (show r.val - 1 < 4 by omega), dif_pos h2]
      · rw [dif_neg (show ¬ r.val - 1 < 4 by omega), dif_neg h2]
  · obtain rfl : i = 1 := Fin.ext h
    rw [dif_neg (by decide)]
    simp only [adm, si]
    by_cases h1 : r.val < 1
    · rw [dif_pos h1, if_pos h1]
    · rw [dif_neg h1, if_neg h1]
      by_cases h2 : r.val < 5
      · rw [dif_pos (show r.val - 1 < 4 by omega), dif_pos h2]
      · rw [dif_neg (show ¬ r.val - 1 < 4 by omega), dif_neg h2]

variable (m : (ℓ : Loc nD τ sig) → Buf (Elt Ideal) ℓ)

/-- Every window's block index at every grid point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The conditioning rows as columns, with three of zeros. -/
def cols (x0 : FVec Ideal S4x1024 .f32) (x1 : FVec Ideal S1024 .f32) : FVec Ideal S1024x8 .f32 :=
  transpose S1024x8 [1, 0] (concatenate S8x1024 0 [⟨S1x1024, broadcastInDim S1x1024 ![1] bcast_S1024_S1x1024_1 x1⟩, ⟨S4x1024, x0⟩,
    ⟨S3x1024, broadcastInDim S3x1024 ![] bcast_S_S3x1024 (constant S_ .f32 0x00000000#32)⟩] concatenates_S1x1024_S4x1024_S3x1024_S8x1024_d0) transposes_S8x1024_S1024x8_1_0

theorem V_3 (c : Dev nD) : (V m c main_v3 : FVec Ideal S1024x8 .f32) = cols (m ((c.tc : Thread nD τ).loc main_arg0)) (m ((c.tc : Thread nD τ).loc main_arg1)) := by
  dsimp only [V]
  after_reads_simp
  dsimp only [Matrix.cons_val]
  try after_reads_simp
  unfold cols
  rfl

theorem V_4 (c : Dev nD) : (V m c main_v4 : FVec Ideal S2x1x6144 .f32) = shapeCast S2x1x6144 (m ((c.tc : Thread nD τ).loc main_arg3) : FVec Ideal S2x6144 .f32) shapeCasts_S2x6144_S2x1x6144 := by
  dsimp only [V]
  after_reads_simp
  rfl

theorem cast_at (X : FVec Ideal S2x6144 .f32) (i : Fin 2) (n : Fin 6144) :
    shapeCast S2x1x6144 X shapeCasts_S2x6144_S2x1x6144 (ix3 i 0 n) = X (ix2 i n) := by
  refine shapeCast_apply X shapeCasts_S2x6144_S2x1x6144 (ix3 i 0 n) (ix2 i n) ?_
  rewrite [Shape.rowMajor_val_three, Shape.rowMajor_val_two]
  show i.val * 6144 + n.val = (i.val * 1 + 0) * 6144 + n.val
  omega

theorem V_4_at (c : Dev nD) (i : Fin 2) (n : Fin 6144) :
    (V m c main_v4 : FVec Ideal S2x1x6144 .f32) (ix3 i 0 n) = (m ((c.tc : Thread nD τ).loc main_arg3) : FVec Ideal S2x6144 .f32) (ix2 i n) := by
  rw [V_4]
  exact cast_at _ i n

theorem cols_at (x0 : FVec Ideal S4x1024 .f32) (x1 : FVec Ideal S1024 .f32) (k : Fin 1024) (r : Fin 8) :
    cols x0 x1 (ix2 k r) = if r.val < 1 then x1 (ix1 k) else if h : r.val < 5 then x0 (ix2 ⟨r.val - 1, by omega⟩ k) else 0 := by
  pointwise [cols]
  by_cases h1 : r.val < 1
  · rw [dif_pos h1, if_pos h1]
  · rw [dif_neg h1, if_neg h1]
    by_cases h2 : r.val < 5
    · rw [dif_pos (show r.val - 1 < 4 by omega), dif_pos h2]
    · rw [dif_neg (show ¬ r.val - 1 < 4 by omega), dif_neg h2]

/-- The conditioning block. -/
theorem blk_0 (c : Dev nD) (t : Fin cfg0.N) (k : Fin 1024) (r : Fin 8) :
    iblk m c 0 t (ix2 k r) = cols (m ((c.tc : Thread nD τ).loc main_arg0)) (m ((c.tc : Thread nD τ).loc main_arg1)) (ix2 k r) := by
  rw [← V_3]
  blk_point [iblk, idx t]

/-- The weight's block at a grid point. -/
theorem blk_1 (c : Dev nD) (t : Fin cfg0.N) (k : Fin 1024) (n : Fin 1536) :
    iblk m c 1 t (ix3 0 k n) = (m ((c.tc : Thread nD τ).loc main_arg2) : FVec Ideal S2x1024x6144 .f32)
      (ix3 ⟨t.val / 4, by have h : t.val < 8 := t.isLt; omega⟩ k ⟨1536 * (t.val % 4) + n.val, by omega⟩) := by
  have h : t.val < 8 := t.isLt
  blk_point [iblk, V, idx t]

/-- The bias's block at a grid point. -/
theorem blk_2 (c : Dev nD) (t : Fin cfg0.N) (n : Fin 1536) :
    iblk m c 2 t (ix3 0 0 n) = (m ((c.tc : Thread nD τ).loc main_arg3) : FVec Ideal S2x6144 .f32)
      (ix2 ⟨t.val / 4, by have h : t.val < 8 := t.isLt; omega⟩ ⟨1536 * (t.val % 4) + n.val, by omega⟩) := by
  have h : t.val < 8 := t.isLt
  have e := V_4_at m c ⟨t.val / 4, by omega⟩ ⟨1536 * (t.val % 4) + n.val, by omega⟩
  rw [← e]
  blk_point [iblk, idx t]

/-- What a grid point writes, from its blocks. -/
theorem pay_at (x : Vec Ideal S1024x8 .f32) (w : Vec Ideal S1x1024x1536 .f32) (b : Vec Ideal S1x1x1536 .f32) (r : Fin 8) (n : Fin 1536) :
    k0_pay1 (k0_pay2 x) (k0_pay3 w) (k0_pay4 x w b) (k0_pay5 x w b) (k0_pay6 x w b) (k0_pay7 x) b b (ix3 0 r n)
      = if r.val < 5 then (∑ k : Fin 1024, si (x (ix2 k r)) * w (ix3 0 k n)) + b (ix3 0 0 n) else 0 := by
  pointwise [k0_pay1, k0_pay2, k0_pay3, k0_pay4, k0_pay5, k0_pay6, k0_pay7]
  simp only [zero_sub]
  fin_cases r <;> first
    | rfl
    | simp [si]

/-- What a grid point writes is the modulation rows' entry. -/
theorem out_at (c : Dev nD) (t : Fin cfg0.N) (r : Fin 8) (n : Fin 1536) :
    k0_pay1 (k0_pay2 (iblk m c 0 t)) (k0_pay3 (iblk m c 1 t)) (k0_pay4 (iblk m c 0 t) (iblk m c 1 t) (iblk m c 2 t)) (k0_pay5 (iblk m c 0 t) (iblk m c 1 t) (iblk m c 2 t))
        (k0_pay6 (iblk m c 0 t) (iblk m c 1 t) (iblk m c 2 t)) (k0_pay7 (iblk m c 0 t)) (iblk m c 2 t) (iblk m c 2 t) (ix3 0 r n)
      = val_main_v42 (F := Ideal) (m ((c.tc : Thread nD τ).loc main_arg0)) (m ((c.tc : Thread nD τ).loc main_arg1)) (m ((c.tc : Thread nD τ).loc main_arg2)) (m ((c.tc : Thread nD τ).loc main_arg3))
          (ix3 ⟨t.val / 4, by have h : t.val < 8 := t.isLt; omega⟩ r ⟨1536 * (t.val % 4) + n.val, by omega⟩) := by
  refine (pay_at (iblk m c 0 t) (iblk m c 1 t) (iblk m c 2 t) r n).trans (Eq.trans ?_ (v42_at _ _ _ _ _ _ _).symm)
  simp only [blk_0, blk_1, blk_2, cols_at, adm]
  by_cases h1 : r.val < 1
  · have h2 : r.val < 5 := by omega
    simp only [if_pos h1, if_pos h2]
  · by_cases h2 : r.val < 5
    · simp only [if_neg h1, if_pos h2, dif_pos h2]
    · simp only [if_neg h1, if_neg h2, dif_neg h2]

/-- The array the run leaves is the reference's modulation rows. -/
theorem final_3 (c : Dev nD) : (dats m 0 c).arrAt 3 (cfgs 0).N = val_main_v42 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  blk_simp; rw [after0_3]; frame_out
  idx_vars y
  obtain rfl : y0 = 0 := Subsingleton.elim _ _
  refine (out_at m c t y1 y2).trans (congrArg _ ?_)
  blk_ext [idx t]

end Cert.Kernel4Ideal.Ada

end
-- ==== Proof.RetPays.lean ====
/- The retention kernel's vector expressions, entry by entry. -/
module

public import proofs.«01_k».proof.Proof.Gen.KernelIdeal.Loops
public import proofs.«01_k».proof.Proof.Gen.KernelIdeal.Frame
public import Idealize.ShloMosaic.Lib.Claim
public import Idealize.ShloMosaic.Lib.Pointwise
public import Idealize.ShloMosaic.Lib.Pipeline.ValueKit
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-- One step of a head's state at row `l` and column `v`: the old state decayed, plus the chunk's keys times its values. -/
def stp (kd : FVec Ideal S128x256 .f32) (V : FVec Ideal S128x128 .bf16) (s : Vec Ideal S1x1x256x128 .f32)
    (a : Vec Ideal S1x1x128 .f32) (l : Fin 256) (v : Fin 128) : EReal :=
  s (ix4 0 0 l v) * Ideal.exp (Ideal.ofBits .f32 0x43000000#32 * a (ix3 0 0 v)) + ∑ r : Fin 128, kd (ix2 r l) * V (ix2 r v)

section
variable (kd : FVec Ideal S128x256 .f32) (M : IVec S1x256 32) (V : FVec Ideal S128x128 .bf16) (s : Vec Ideal S1x1x256x128 .f32)
  (a : Vec Ideal S1x1x128 .f32) (l : Fin 256) (v : Fin 128)

/-- A lane of head 0 steps by the chunk's whole product. -/
theorem pay17_at (hM : M (ix2 0 l) = 0#32) : k0_pay17 kd (k0_pay12 M) (k0_pay13 V) s a (ix4 0 0 l v) = stp kd V s a l v := by
  pointwise [k0_pay17, k0_pay12, k0_pay13, k0_pay15, stp, hM]

/-- A lane of head 1 steps by the chunk's whole product. -/
theorem pay23_at (hM : M (ix2 0 l) = 1#32) : k0_pay23 kd (k0_pay18 M) (k0_pay19 V) s a (ix4 0 0 l v) = stp kd V s a l v := by
  pointwise [k0_pay23, k0_pay18, k0_pay19, k0_pay21, stp, hM]

/-- A lane of head 2 steps by the chunk's whole product. -/
theorem pay30_at (hM : M (ix2 0 l) = 2#32) : k0_pay30 (k0_pay29 M kd k0_pay24 V s a) (ix4 0 0 l v) = stp kd V s a l v := by
  pointwise [k0_pay30, k0_pay29, k0_pay25, k0_pay24, k0_pay26, k0_pay27, stp, hM]

/-- A lane of head 3 steps by the chunk's whole product. -/
theorem pay85_at (hM : M (ix2 0 l) = 3#32) : k0_pay85 kd (k0_pay32 V) (k0_pay35 s a) (Scalar.ofBits .f32 0x00000000#32) (k0_pay36 M) (ix4 0 0 l v) = stp kd V s a l v := by
  pointwise [k0_pay85, k0_pay32, k0_pay35, k0_pay33, k0_pay36, k0_pay31, stp, hM]

/-- A lane of head 0 steps by the chunk's whole product. -/
theorem pay44_at (hM : M (ix2 0 l) = 0#32) : k0_pay44 kd (k0_pay39 M) (k0_pay40 V) (k0_pay41 s) (k0_pay43 a) (ix4 0 0 l v) = stp kd V s a l v := by
  pointwise [k0_pay44, k0_pay39, k0_pay40, k0_pay41, k0_pay43, stp, hM]

/-- A lane of head 1 steps by the chunk's whole product. -/
theorem pay50_at (hM : M (ix2 0 l) = 1#32) : k0_pay50 (k0_pay45 V) (k0_pay48 s a) (k0_pay49 M kd) (ix4 0 0 l v) = stp kd V s a l v := by
  pointwise [k0_pay50, k0_pay45, k0_pay48, k0_pay49, k0_pay46, stp, hM]

/-- A lane of head 2 steps by the chunk's whole product. -/
theorem pay54_at (hM : M (ix2 0 l) = 2#32) : k0_pay54 (k0_pay53 M kd V s a) (ix4 0 0 l v) = stp kd V s a l v := by
  pointwise [k0_pay54, k0_pay53, k0_pay51, stp, hM]

/-- A lane of head 3 steps by the chunk's whole product. -/
theorem pay57_at (hM : M (ix2 0 l) = 3#32) : k0_pay57 M kd V s a (ix4 0 0 l v) = stp kd V s a l v := by
  pointwise [k0_pay57, k0_pay55, stp, hM]

end

/-- The head a lane belongs to. -/
theorem lane_at (l : Fin 256) : k0_pay81 k0_pay78 32#32 k0_pay79 k0_pay80 0#32 (ix2 0 l) = BitVec.ofNat 32 (l.val % 128 / 32) := by
  pointwise [k0_pay81, k0_pay78, k0_pay79, k0_pay80]
  revert l; decide +kernel

/-- The row counter, as a number. -/
theorem pay82_at (r : Fin 128) (l : Fin 256) : k0_pay82 (F := Ideal) (ix2 r l) = ((r.val : ℝ) : EReal) := by
  pointwise [k0_pay82]
  show (((BitVec.ofNat 32 r.val).toInt : ℝ) : EReal) = _
  have : ∀ r : Fin 128, (BitVec.ofNat 32 r.val).toInt = (r.val : ℤ) := by decide +kernel
  rw [this r]; norm_cast

/-- A key of the chunk, decayed to the chunk's end. -/
theorem pay11_at (g : Vec Ideal S1x256 .f32) (K : Vec Ideal S128x256 .bf16) (r : Fin 128) (l : Fin 256) :
    k0_pay11 k0_pay82 (k0_pay83 g) K (ix2 r l) = K (ix2 r l) * Ideal.exp ((Ideal.ofBits .f32 0x42FE0000#32 - ((r.val : ℝ) : EReal)) * g (ix2 0 l)) := by
  rw [← pay82_at r l]
  pointwise [k0_pay11, k0_pay83, k0_pay6]

/-- A key of the chunk, decayed to the chunk's start. -/
theorem pay38_at (g : Vec Ideal S1x256 .f32) (K : Vec Ideal S128x256 .f32) (r : Fin 128) (l : Fin 256) :
    k0_pay38 k0_pay82 (k0_pay84 g) K (ix2 r l) = K (ix2 r l) * Ideal.exp (((r.val : ℝ) : EReal) * g (ix2 0 l)) := by
  rw [← pay82_at r l]
  pointwise [k0_pay38, k0_pay84]

theorem off1_eq : ∀ k : Fin k0_t1_loop.trips, k0_off1 k = ![128 * k.val, 0] := by decide
theorem off2_eq : ∀ k : Fin k0_t1_loop.trips, k0_off2 k = ![128 * k.val, 256] := by decide
theorem off3_eq : ∀ k : Fin k0_t1_loop.trips, k0_off3 k = ![128 * k.val, 0] := by decide
theorem off4_eq : ∀ k : Fin k0_t1_loop.trips, k0_off4 k = ![128 * k.val, 256] := by decide
theorem off5_eq : ∀ k : Fin k0_t1_loop.trips, k0_off5 k = ![128 * k.val, 512] := by decide
theorem off7_eq : ∀ k : Fin k0_t1_loop.trips, k0_off7 k = ![128 * k.val, 640] := by decide
theorem off9_eq : ∀ k : Fin k0_t1_loop.trips, k0_off9 k = ![128 * k.val, 768] := by decide
theorem off11_eq : ∀ k : Fin k0_t1_loop.trips, k0_off11 k = ![128 * k.val, 896] := by decide
theorem off14_eq : ∀ k : Fin k0_t2_loop.trips, k0_off14 k = ![128 * (1 - k.val), 256] := by decide
theorem off15_eq : ∀ k : Fin k0_t2_loop.trips, k0_off15 k = ![128 * (1 - k.val), 512] := by decide
theorem off17_eq : ∀ k : Fin k0_t2_loop.trips, k0_off17 k = ![128 * (1 - k.val), 640] := by decide
theorem off19_eq : ∀ k : Fin k0_t2_loop.trips, k0_off19 k = ![128 * (1 - k.val), 768] := by decide
theorem off21_eq : ∀ k : Fin k0_t2_loop.trips, k0_off21 k = ![128 * (1 - k.val), 896] := by decide

end Cert.KernelIdeal.Hand

end
-- ==== Proof.RetTrip.lean ====
/- One trip of each of the retention kernel's two state loops. -/
module

public import proofs.«01_k».proof.Proof.Gen.KernelIdeal.Loops
public import proofs.«01_k».proof.Proof.Gen.KernelIdeal.Frame
public import proofs.«01_k».proof.Proof.RetPays
public import Idealize.ShloMosaic.Lib.WritesUnit
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

variable (𝒱 : Variants) (c : Dev nD) (bd : Option 𝒱.V) (i : grid0.Coords)
  (arg1 : Memref sig .tc .vmem S256x1536 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S2x256 .f32) (harg4 : arg4.IsWhole) (arg5 : Memref sig .tc .vmem S2x4x128 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x2x4x64x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S2x4x256x128 .f32) (harg11 : arg11.IsWhole) (arg12 : Memref sig .tc .vmem S4x128x128 .f32) (harg12 : arg12.IsWhole)
  (X1 : BufTy.Contents (Elt Ideal) arg1.view.ty) (X5 : BufTy.Contents (Elt Ideal) arg5.view.ty)
  (X12 : BufTy.Contents (Elt Ideal) arg12.view.ty) (X9 : BufTy.Contents (Elt Ideal) arg9.view.ty)
  (f9 : BufTy.Contents (Elt Ideal) arg9.view.ty) (f10 : BufTy.Contents (Elt Ideal) arg10.view.ty)
  (f11 : BufTy.Contents (Elt Ideal) arg11.view.ty)

/-- A chunk's row of the block. -/
def crow (n : ℕ) (hn : n < 2) (r : Fin 128) : Fin 256 := ⟨128 * n + r.val, by omega⟩

/-- One step of head `h`'s forward state: chunk `n`'s keys decayed to the chunk's end. -/
def fstep (x : Vec Ideal S256x1536 .bf16) (g : Vec Ideal S1x256 .f32) (a : Vec Ideal S2x4x128 .f32) (n : ℕ) (hn : n < 2)
    (h : Fin 4) (l : Fin 256) (v : Fin 128) (s : EReal) : EReal :=
  s * Ideal.exp (Ideal.ofBits .f32 0x43000000#32 * a (ix3 0 h v))
    + ∑ r : Fin 128, (x (ix2 (crow n hn r) ⟨256 + l.val, by omega⟩)
        * Ideal.exp ((Ideal.ofBits .f32 0x42FE0000#32 - ((r.val : ℝ) : EReal)) * g (ix2 0 l)))
      * x (ix2 (crow n hn r) ⟨512 + 128 * h.val + v.val, by omega⟩)

/-- One step of head `h`'s backward state: chunk `n`'s keys, read from the copy, decayed to the chunk's start. -/
def bstep (x : Vec Ideal S256x1536 .bf16) (K : Vec Ideal S256x512 .f32) (g : Vec Ideal S1x256 .f32) (a : Vec Ideal S2x4x128 .f32) (n : ℕ) (hn : n < 2)
    (h : Fin 4) (l : Fin 256) (v : Fin 128) (s : EReal) : EReal :=
  s * Ideal.exp (Ideal.ofBits .f32 0x43000000#32 * a (ix3 1 h v))
    + ∑ r : Fin 128, (K (ix2 (crow n hn r) ⟨256 + l.val, by omega⟩)
        * Ideal.exp (((r.val : ℝ) : EReal) * g (ix2 0 l)))
      * x (ix2 (crow n hn r) ⟨512 + 128 * h.val + v.val, by omega⟩)

theorem trips1 : k0_t1_loop.trips = 2 := by decide
theorem trips2 : k0_t2_loop.trips = 2 := by decide
theorem lt1 (k : Fin k0_t1_loop.trips) : k.val < 2 := trips1 ▸ k.isLt
theorem lt2 (k : Fin k0_t2_loop.trips) : k.val < 2 := trips2 ▸ k.isLt
theorem lt2' (k : Fin k0_t2_loop.trips) : 1 - k.val < 2 := by omega

/-- A load of 128 rows of a block, at an entry. -/
theorem rd2 {sp : Space} {e : EltTy} {R C W : ℕ} (w : View sig .tc sp ⟨2, ![R, C]⟩ e) (f : w.ty.Contents (Elt Ideal)) {off : Fin 2 → ℕ}
    (inb : ∀ a, off a + (![128, W] : Fin 2 → ℕ) a ≤ (⟨2, ![R, C]⟩ : Shape).size a) (o p : ℕ) (h : off = ![o, p]) (r : Fin 128) (q : Fin W)
    (y0 : Fin R) (y1 : Fin C) (h0 : y0.val = o + r.val) (h1 : y1.val = p + q.val) :
    w.readAt (Elt Ideal) (Rect.unit (s := ⟨2, ![R, C]⟩) off ![128, W] inb).toLoadRect f (ix2 r q) = w.read (Elt Ideal) f (ix2 y0 y1) := by
  subst h
  refine congrArg (w.read (Elt Ideal) f) (funext fun a => Fin.ext ?_)
  match a with
  | ⟨0, _⟩ => show o + 1 * r.val = y0.val; omega
  | ⟨1, _⟩ => show p + 1 * q.val = y1.val; omega

/-- A load of one head's state, at an entry. -/
theorem rd4 {sp : Space} (w : View sig .tc sp S2x4x256x128 .f32) (f : w.ty.Contents (Elt Ideal)) (d : Fin 2) (h : Fin 4)
    (inb : ∀ a, (![d.val, h.val, 0, 0] : Fin 4 → ℕ) a + (![1, 1, 256, 128] : Fin 4 → ℕ) a ≤ S2x4x256x128.size a) (l : Fin 256) (v : Fin 128) :
    w.readAt (Elt Ideal) (Rect.unit (s := S2x4x256x128) ![d.val, h.val, 0, 0] ![1, 1, 256, 128] inb).toLoadRect f (ix4 0 0 l v) = w.read (Elt Ideal) f (ix4 d h l v) := by
  refine congrArg (w.read (Elt Ideal) f) (funext fun a => Fin.ext ?_)
  match a with
  | ⟨0, _⟩ => show d.val + 1 * 0 = d.val; omega
  | ⟨1, _⟩ => show h.val + 1 * 0 = h.val; omega
  | ⟨2, _⟩ => show 0 + 1 * l.val = l.val; omega
  | ⟨3, _⟩ => show 0 + 1 * v.val = v.val; omega

/-- A load of one head's decay, at an entry. -/
theorem rd3 {sp : Space} (w : View sig .tc sp S2x4x128 .f32) (f : w.ty.Contents (Elt Ideal)) (d : Fin 2) (h : Fin 4)
    (inb : ∀ a, (![d.val, h.val, 0] : Fin 3 → ℕ) a + (![1, 1, 128] : Fin 3 → ℕ) a ≤ S2x4x128.size a) (v : Fin 128) :
    w.readAt (Elt Ideal) (Rect.unit (s := S2x4x128) ![d.val, h.val, 0] ![1, 1, 128] inb).toLoadRect f (ix3 0 0 v) = w.read (Elt Ideal) f (ix3 d h v) := by
  refine congrArg (w.read (Elt Ideal) f) (funext fun a => Fin.ext ?_)
  match a with
  | ⟨0, _⟩ => show d.val + 1 * 0 = d.val; omega
  | ⟨1, _⟩ => show h.val + 1 * 0 = h.val; omega
  | ⟨2, _⟩ => show 0 + 1 * v.val = v.val; omega

/-- Under another head's store a state entry is unchanged. -/
theorem skip4 {sp : Space} (w : View sig .tc sp S2x4x256x128 .f32) (f : w.ty.Contents (Elt Ideal)) (d : Fin 2) (h : Fin 4) (d' h' : ℕ)
    (inb : ∀ a, (![d', h', 0, 0] : Fin 4 → ℕ) a + (![1, 1, 256, 128] : Fin 4 → ℕ) a ≤ S2x4x256x128.size a)
    (p : (Rect.unit (s := S2x4x256x128) ![d', h', 0, 0] ![1, 1, 256, 128] inb).shape.Idx → Elt Ideal .f32) (L : List (View.Piece (Elt Ideal) S2x4x256x128 .f32)) (l : Fin 256) (v : Fin 128)
    (hne : d.val ≠ d' ∨ h.val ≠ h') :
    w.read (Elt Ideal) (w.writes (Elt Ideal) f (⟨Rect.unit (s := S2x4x256x128) ![d', h', 0, 0] ![1, 1, 256, 128] inb, p⟩ :: L)) (ix4 d h l v)
      = w.read (Elt Ideal) (w.writes (Elt Ideal) f L) (ix4 d h l v) := by
  rcases hne with hne | hne
  · exact View.read_writes_cons_unit_of_not_mem w f inb p L _ rfl 0 (by show d.val < d' ∨ d' + 1 ≤ d.val; omega)
  · exact View.read_writes_cons_unit_of_not_mem w f inb p L _ rfl 1 (by show h.val < h' ∨ h' + 1 ≤ h.val; omega)

/-- Under its own store a state entry is the payload's. -/
theorem hit4 {sp : Space} (w : View sig .tc sp S2x4x256x128 .f32) (f : w.ty.Contents (Elt Ideal)) (d : Fin 2) (h : Fin 4)
    (inb : ∀ a, (![d.val, h.val, 0, 0] : Fin 4 → ℕ) a + (![1, 1, 256, 128] : Fin 4 → ℕ) a ≤ S2x4x256x128.size a)
    (p : Vec Ideal S1x1x256x128 .f32) (L : List (View.Piece (Elt Ideal) S2x4x256x128 .f32)) (l : Fin 256) (v : Fin 128) :
    w.read (Elt Ideal) (w.writes (Elt Ideal) f (⟨Rect.unit (s := S2x4x256x128) ![d.val, h.val, 0, 0] ![1, 1, 256, 128] inb, p⟩ :: L)) (ix4 d h l v)
      = p (ix4 0 0 l v) := by
  refine View.read_writes_cons_unit_of_mem w f inb p L _ (ix4 (0 : Fin 1) (0 : Fin 1) l v) rfl fun a => ?_
  match a with
  | ⟨0, _⟩ => show d.val = d.val + 0; omega
  | ⟨1, _⟩ => show h.val = h.val + 0; omega
  | ⟨2, _⟩ => show l.val = 0 + l.val; omega
  | ⟨3, _⟩ => show v.val = 0 + v.val; omega

/-- The forward loop leaves the backward states. -/
theorem t1_other (v132 : Vec Ideal S1x256 .f32) (k : Fin k0_t1_loop.trips) (h : Fin 4) (l : Fin 256) (v : Fin 128) :
    arg11.view.read (Elt Ideal) (arg11.view.writes (Elt Ideal) f11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 f9 f10 f11)) (ix4 1 h l v)
      = arg11.view.read (Elt Ideal) f11 (ix4 1 h l v) := by
  unfold trip_k0_t1
  dsimp only
  refine (skip4 _ _ 1 h 0 3 _ _ _ l v (.inl (by decide))).trans ?_
  refine (skip4 _ _ 1 h 0 2 _ _ _ l v (.inl (by decide))).trans ?_
  refine (skip4 _ _ 1 h 0 1 _ _ _ l v (.inl (by decide))).trans ?_
  refine (skip4 _ _ 1 h 0 0 _ _ _ l v (.inl (by decide))).trans ?_
  rfl

/-- The backward loop leaves the forward states. -/
theorem t2_other (v134 : Vec Ideal S1x256 .f32) (k : Fin k0_t2_loop.trips) (h : Fin 4) (l : Fin 256) (v : Fin 128) :
    arg11.view.read (Elt Ideal) (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 f10 f11)) (ix4 0 h l v)
      = arg11.view.read (Elt Ideal) f11 (ix4 0 h l v) := by
  unfold trip_k0_t2
  dsimp only
  refine (skip4 _ _ 0 h 1 3 _ _ _ l v (.inl (by decide))).trans ?_
  refine (skip4 _ _ 0 h 1 2 _ _ _ l v (.inl (by decide))).trans ?_
  refine (skip4 _ _ 0 h 1 1 _ _ _ l v (.inl (by decide))).trans ?_
  refine (skip4 _ _ 0 h 1 0 _ _ _ l v (.inl (by decide))).trans ?_
  rfl

/-- A head's step from the loads it makes, forward. -/
theorem stp_fwd (v132 : Vec Ideal S1x256 .f32) (k : Fin k0_t1_loop.trips) (h : Fin 4) (l : Fin 256) (v : Fin 128) {o : Fin 2 → ℕ} (ho : o = ![128 * k.val, 512 + 128 * h.val])
    (i2 : ∀ a, (k0_off2 k) a + (![128, 256] : Fin 2 → ℕ) a ≤ S256x1536.size a)
    (iv : ∀ a, o a + (![128, 128] : Fin 2 → ℕ) a ≤ S256x1536.size a)
    (is : ∀ a, (![(0 : Fin 2).val, h.val, 0, 0] : Fin 4 → ℕ) a + (![1, 1, 256, 128] : Fin 4 → ℕ) a ≤ S2x4x256x128.size a)
    (ia : ∀ a, (![(0 : Fin 2).val, h.val, 0] : Fin 3 → ℕ) a + (![1, 1, 128] : Fin 3 → ℕ) a ≤ S2x4x128.size a) :
    stp (k0_pay11 k0_pay82 (k0_pay83 v132) (arg1.view.readAt (Elt Ideal) (Rect.unit (s := S256x1536) (k0_off2 k) ![128, 256] i2).toLoadRect X1))
      (arg1.view.readAt (Elt Ideal) (Rect.unit (s := S256x1536) o ![128, 128] iv).toLoadRect X1)
      (arg11.view.readAt (Elt Ideal) (Rect.unit (s := S2x4x256x128) ![(0 : Fin 2).val, h.val, 0, 0] ![1, 1, 256, 128] is).toLoadRect f11)
      (arg5.view.readAt (Elt Ideal) (Rect.unit (s := S2x4x128) ![(0 : Fin 2).val, h.val, 0] ![1, 1, 128] ia).toLoadRect X5) l v
    = fstep (arg1.view.read (Elt Ideal) X1) v132 (arg5.view.read (Elt Ideal) X5) k.val (lt1 k) h l v (arg11.view.read (Elt Ideal) f11 (ix4 0 h l v)) := by
  unfold stp fstep
  rw [rd4, rd3]
  refine congrArg _ (Finset.sum_congr rfl fun r _ => ?_)
  rw [pay11_at, rd2 (W := 256) arg1.view X1 i2 (128 * k.val) 256 (off2_eq k) r l (crow k.val (lt1 k) r) ⟨256 + l.val, by omega⟩ rfl rfl,
    rd2 (W := 128) arg1.view X1 iv (128 * k.val) (512 + 128 * h.val) ho r v (crow k.val (lt1 k) r) ⟨512 + 128 * h.val + v.val, by omega⟩ rfl rfl]

/-- A head's step from the loads it makes, backward. -/
theorem stp_bwd (v134 : Vec Ideal S1x256 .f32) (k : Fin k0_t2_loop.trips) (h : Fin 4) (l : Fin 256) (v : Fin 128) {o : Fin 2 → ℕ} (ho : o = ![128 * (1 - k.val), 512 + 128 * h.val])
    (i2 : ∀ a, (k0_off14 k) a + (![128, 256] : Fin 2 → ℕ) a ≤ S256x512.size a)
    (iv : ∀ a, o a + (![128, 128] : Fin 2 → ℕ) a ≤ S256x1536.size a)
    (is : ∀ a, (![(1 : Fin 2).val, h.val, 0, 0] : Fin 4 → ℕ) a + (![1, 1, 256, 128] : Fin 4 → ℕ) a ≤ S2x4x256x128.size a)
    (ia : ∀ a, (![(1 : Fin 2).val, h.val, 0] : Fin 3 → ℕ) a + (![1, 1, 128] : Fin 3 → ℕ) a ≤ S2x4x128.size a) :
    stp (k0_pay38 k0_pay82 (k0_pay84 v134) (arg9.view.readAt (Elt Ideal) (Rect.unit (s := S256x512) (k0_off14 k) ![128, 256] i2).toLoadRect X9))
      (arg1.view.readAt (Elt Ideal) (Rect.unit (s := S256x1536) o ![128, 128] iv).toLoadRect X1)
      (arg11.view.readAt (Elt Ideal) (Rect.unit (s := S2x4x256x128) ![(1 : Fin 2).val, h.val, 0, 0] ![1, 1, 256, 128] is).toLoadRect f11)
      (arg5.view.readAt (Elt Ideal) (Rect.unit (s := S2x4x128) ![(1 : Fin 2).val, h.val, 0] ![1, 1, 128] ia).toLoadRect X5) l v
    = bstep (arg1.view.read (Elt Ideal) X1) (arg9.view.read (Elt Ideal) X9) v134 (arg5.view.read (Elt Ideal) X5) (1 - k.val) (lt2' k) h l v (arg11.view.read (Elt Ideal) f11 (ix4 1 h l v)) := by
  unfold stp bstep
  rw [rd4, rd3]
  refine congrArg _ (Finset.sum_congr rfl fun r _ => ?_)
  rw [pay38_at, rd2 (W := 256) arg9.view X9 i2 (128 * (1 - k.val)) 256 (off14_eq k) r l (crow (1 - k.val) (lt2' k) r) ⟨256 + l.val, by omega⟩ rfl rfl,
    rd2 (W := 128) arg1.view X1 iv (128 * (1 - k.val)) (512 + 128 * h.val) ho r v (crow (1 - k.val) (lt2' k) r) ⟨512 + 128 * h.val + v.val, by omega⟩ rfl rfl]

/-- One trip's step of head 0's state. -/
theorem t1_h0 (v132 : Vec Ideal S1x256 .f32) (k : Fin k0_t1_loop.trips) (l : Fin 256) (v : Fin 128) (hl : l.val % 128 / 32 = 0) :
    arg11.view.read (Elt Ideal) (arg11.view.writes (Elt Ideal) f11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 f9 f10 f11)) (ix4 0 0 l v)
      = fstep (arg1.view.read (Elt Ideal) X1) v132 (arg5.view.read (Elt Ideal) X5) k.val (lt1 k) 0 l v (arg11.view.read (Elt Ideal) f11 (ix4 0 0 l v)) := by
  unfold trip_k0_t1
  dsimp only
  refine (skip4 _ _ 0 0 0 3 _ _ _ l v (.inr (by decide))).trans ?_
  refine (skip4 _ _ 0 0 0 2 _ _ _ l v (.inr (by decide))).trans ?_
  refine (skip4 _ _ 0 0 0 1 _ _ _ l v (.inr (by decide))).trans ?_
  refine (hit4 _ _ 0 0 _ _ _ l v).trans ?_
  refine (pay17_at _ _ _ _ _ l v (by rw [lane_at, hl])).trans ?_
  exact stp_fwd arg1 arg5 arg11 X1 X5 f11 _ k 0 l v (off5_eq k) _ _ _ _

/-- One trip's step of head 1's state. -/
theorem t1_h1 (v132 : Vec Ideal S1x256 .f32) (k : Fin k0_t1_loop.trips) (l : Fin 256) (v : Fin 128) (hl : l.val % 128 / 32 = 1) :
    arg11.view.read (Elt Ideal) (arg11.view.writes (Elt Ideal) f11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 f9 f10 f11)) (ix4 0 1 l v)
      = fstep (arg1.view.read (Elt Ideal) X1) v132 (arg5.view.read (Elt Ideal) X5) k.val (lt1 k) 1 l v (arg11.view.read (Elt Ideal) f11 (ix4 0 1 l v)) := by
  unfold trip_k0_t1
  dsimp only
  refine (skip4 _ _ 0 1 0 3 _ _ _ l v (.inr (by decide))).trans ?_
  refine (skip4 _ _ 0 1 0 2 _ _ _ l v (.inr (by decide))).trans ?_
  refine (hit4 _ _ 0 1 _ _ _ l v).trans ?_
  refine (pay23_at _ _ _ _ _ l v (by rw [lane_at, hl])).trans ?_
  exact stp_fwd arg1 arg5 arg11 X1 X5 f11 _ k 1 l v (off7_eq k) _ _ _ _

/-- One trip's step of head 2's state. -/
theorem t1_h2 (v132 : Vec Ideal S1x256 .f32) (k : Fin k0_t1_loop.trips) (l : Fin 256) (v : Fin 128) (hl : l.val % 128 / 32 = 2) :
    arg11.view.read (Elt Ideal) (arg11.view.writes (Elt Ideal) f11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 f9 f10 f11)) (ix4 0 2 l v)
      = fstep (arg1.view.read (Elt Ideal) X1) v132 (arg5.view.read (Elt Ideal) X5) k.val (lt1 k) 2 l v (arg11.view.read (Elt Ideal) f11 (ix4 0 2 l v)) := by
  unfold trip_k0_t1
  dsimp only
  refine (skip4 _ _ 0 2 0 3 _ _ _ l v (.inr (by decide))).trans ?_
  refine (hit4 _ _ 0 2 _ _ _ l v).trans ?_
  refine (pay30_at _ _ _ _ _ l v (by rw [lane_at, hl])).trans ?_
  exact stp_fwd arg1 arg5 arg11 X1 X5 f11 _ k 2 l v (off9_eq k) _ _ _ _

/-- One trip's step of head 3's state. -/
theorem t1_h3 (v132 : Vec Ideal S1x256 .f32) (k : Fin k0_t1_loop.trips) (l : Fin 256) (v : Fin 128) (hl : l.val % 128 / 32 = 3) :
    arg11.view.read (Elt Ideal) (arg11.view.writes (Elt Ideal) f11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 f9 f10 f11)) (ix4 0 3 l v)
      = fstep (arg1.view.read (Elt Ideal) X1) v132 (arg5.view.read (Elt Ideal) X5) k.val (lt1 k) 3 l v (arg11.view.read (Elt Ideal) f11 (ix4 0 3 l v)) := by
  unfold trip_k0_t1
  dsimp only
  refine (hit4 _ _ 0 3 _ _ _ l v).trans ?_
  refine (pay85_at _ _ _ _ _ l v (by rw [lane_at, hl])).trans ?_
  exact stp_fwd arg1 arg5 arg11 X1 X5 f11 _ k 3 l v (off11_eq k) _ _ _ _

/-- One trip's step of head 0's state. -/
theorem t2_h0 (v134 : Vec Ideal S1x256 .f32) (k : Fin k0_t2_loop.trips) (l : Fin 256) (v : Fin 128) (hl : l.val % 128 / 32 = 0) :
    arg11.view.read (Elt Ideal) (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 f10 f11)) (ix4 1 0 l v)
      = bstep (arg1.view.read (Elt Ideal) X1) (arg9.view.read (Elt Ideal) X9) v134 (arg5.view.read (Elt Ideal) X5) (1 - k.val) (lt2' k) 0 l v (arg11.view.read (Elt Ideal) f11 (ix4 1 0 l v)) := by
  unfold trip_k0_t2
  dsimp only
  refine (skip4 _ _ 1 0 1 3 _ _ _ l v (.inr (by decide))).trans ?_
  refine (skip4 _ _ 1 0 1 2 _ _ _ l v (.inr (by decide))).trans ?_
  refine (skip4 _ _ 1 0 1 1 _ _ _ l v (.inr (by decide))).trans ?_
  refine (hit4 _ _ 1 0 _ _ _ l v).trans ?_
  refine (pay44_at _ _ _ _ _ l v (by rw [lane_at, hl])).trans ?_
  exact stp_bwd arg1 arg5 arg9 arg11 X1 X5 X9 f11 _ k 0 l v (off15_eq k) _ _ _ _

/-- One trip's step of head 1's state. -/
theorem t2_h1 (v134 : Vec Ideal S1x256 .f32) (k : Fin k0_t2_loop.trips) (l : Fin 256) (v : Fin 128) (hl : l.val % 128 / 32 = 1) :
    arg11.view.read (Elt Ideal) (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 f10 f11)) (ix4 1 1 l v)
      = bstep (arg1.view.read (Elt Ideal) X1) (arg9.view.read (Elt Ideal) X9) v134 (arg5.view.read (Elt Ideal) X5) (1 - k.val) (lt2' k) 1 l v (arg11.view.read (Elt Ideal) f11 (ix4 1 1 l v)) := by
  unfold trip_k0_t2
  dsimp only
  refine (skip4 _ _ 1 1 1 3 _ _ _ l v (.inr (by decide))).trans ?_
  refine (skip4 _ _ 1 1 1 2 _ _ _ l v (.inr (by decide))).trans ?_
  refine (hit4 _ _ 1 1 _ _ _ l v).trans ?_
  refine (pay50_at _ _ _ _ _ l v (by rw [lane_at, hl])).trans ?_
  exact stp_bwd arg1 arg5 arg9 arg11 X1 X5 X9 f11 _ k 1 l v (off17_eq k) _ _ _ _

/-- One trip's step of head 2's state. -/
theorem t2_h2 (v134 : Vec Ideal S1x256 .f32) (k : Fin k0_t2_loop.trips) (l : Fin 256) (v : Fin 128) (hl : l.val % 128 / 32 = 2) :
    arg11.view.read (Elt Ideal) (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 f10 f11)) (ix4 1 2 l v)
      = bstep (arg1.view.read (Elt Ideal) X1) (arg9.view.read (Elt Ideal) X9) v134 (arg5.view.read (Elt Ideal) X5) (1 - k.val) (lt2' k) 2 l v (arg11.view.read (Elt Ideal) f11 (ix4 1 2 l v)) := by
  unfold trip_k0_t2
  dsimp only
  refine (skip4 _ _ 1 2 1 3 _ _ _ l v (.inr (by decide))).trans ?_
  refine (hit4 _ _ 1 2 _ _ _ l v).trans ?_
  refine (pay54_at _ _ _ _ _ l v (by rw [lane_at, hl])).trans ?_
  exact stp_bwd arg1 arg5 arg9 arg11 X1 X5 X9 f11 _ k 2 l v (off19_eq k) _ _ _ _

/-- One trip's step of head 3's state. -/
theorem t2_h3 (v134 : Vec Ideal S1x256 .f32) (k : Fin k0_t2_loop.trips) (l : Fin 256) (v : Fin 128) (hl : l.val % 128 / 32 = 3) :
    arg11.view.read (Elt Ideal) (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 f10 f11)) (ix4 1 3 l v)
      = bstep (arg1.view.read (Elt Ideal) X1) (arg9.view.read (Elt Ideal) X9) v134 (arg5.view.read (Elt Ideal) X5) (1 - k.val) (lt2' k) 3 l v (arg11.view.read (Elt Ideal) f11 (ix4 1 3 l v)) := by
  unfold trip_k0_t2
  dsimp only
  refine (hit4 _ _ 1 3 _ _ _ l v).trans ?_
  refine (pay57_at _ _ _ _ _ l v (by rw [lane_at, hl])).trans ?_
  exact stp_bwd arg1 arg5 arg9 arg11 X1 X5 X9 f11 _ k 3 l v (off21_eq k) _ _ _ _

end Cert.KernelIdeal.Hand

end
-- ==== Proof.RetLoop.lean ====
/- The retention kernel's two state loops from their first trip to their last. -/
module

public import proofs.«01_k».proof.Proof.Gen.KernelIdeal.Loops
public import proofs.«01_k».proof.Proof.Gen.KernelIdeal.Frame
public import proofs.«01_k».proof.Proof.RetTrip
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (i : grid0.Coords)
  (arg1 : Memref sig .tc .vmem S256x1536 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S2x256 .f32) (harg4 : arg4.IsWhole) (arg5 : Memref sig .tc .vmem S2x4x128 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x2x4x64x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S2x4x256x128 .f32) (harg11 : arg11.IsWhole) (arg12 : Memref sig .tc .vmem S4x128x128 .f32) (harg12 : arg12.IsWhole)
  (X1 : BufTy.Contents (Elt Ideal) arg1.view.ty) (X5 : BufTy.Contents (Elt Ideal) arg5.view.ty)
  (X12 : BufTy.Contents (Elt Ideal) arg12.view.ty) (X9 : BufTy.Contents (Elt Ideal) arg9.view.ty)
  (G9 : BufTy.Contents (Elt Ideal) arg9.view.ty) (G10 : BufTy.Contents (Elt Ideal) arg10.view.ty)
  (G11 : BufTy.Contents (Elt Ideal) arg11.view.ty)

/-- The key columns a trip copies out, inside its chunk's rows. -/
theorem t1_key_in (v132 : Vec Ideal S1x256 .f32) (k : Fin k0_t1_loop.trips) (r : Fin 128) (l : Fin 256) :
    arg9.view.read (Elt Ideal) (arg9.view.writes (Elt Ideal) G9 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).1 G9 G10 G11)) (ix2 (crow k.val (lt1 k) r) ⟨256 + l.val, by omega⟩)
      = arg1.view.read (Elt Ideal) X1 (ix2 (crow k.val (lt1 k) r) ⟨256 + l.val, by omega⟩) := by
  unfold trip_k0_t1
  dsimp only
  refine (View.read_writes_cons_unit_of_mem arg9.view G9 _ _ _ _ (ix2 r l) (off4_eq k) fun a => ?_).trans ?_
  · match a with
    | ⟨0, _⟩ => rfl
    | ⟨1, _⟩ => rfl
  pointwise [k0_pay8, k0_pay6]
  exact rd2 (W := 256) arg1.view X1 _ (128 * k.val) 256 (off2_eq k) r l (crow k.val (lt1 k) r) ⟨256 + l.val, by omega⟩ rfl rfl

/-- Outside its chunk's rows a trip leaves the key columns. -/
theorem t1_key_out (v132 : Vec Ideal S1x256 .f32) (k : Fin k0_t1_loop.trips) (n : ℕ) (hn : n < 2) (r : Fin 128) (l : Fin 256) (hne : n ≠ k.val) :
    arg9.view.read (Elt Ideal) (arg9.view.writes (Elt Ideal) G9 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).1 G9 G10 G11)) (ix2 (crow n hn r) ⟨256 + l.val, by omega⟩)
      = arg9.view.read (Elt Ideal) G9 (ix2 (crow n hn r) ⟨256 + l.val, by omega⟩) := by
  have hc : (crow n hn r).val < 128 * k.val ∨ 128 * k.val + 128 ≤ (crow n hn r).val := by
    show 128 * n + r.val < _ ∨ _ ≤ 128 * n + r.val
    omega
  unfold trip_k0_t1
  dsimp only
  refine (View.read_writes_cons_unit_of_not_mem arg9.view G9 _ _ _ _ (off4_eq k) 0 hc).trans ?_
  refine (View.read_writes_cons_unit_of_not_mem arg9.view G9 _ _ _ _ (off3_eq k) 0 hc).trans ?_
  rfl

/-- After the forward loop the copy holds the block's keys. -/
theorem loop1_key (v132 : Vec Ideal S1x256 .f32) (n : ℕ) (hn : n < 2) (r : Fin 128) (l : Fin 256) :
    arg9.view.read (Elt Ideal) (arg9.view.writes (Elt Ideal) G9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips).1) (ix2 (crow n hn r) ⟨256 + l.val, by omega⟩)
      = arg1.view.read (Elt Ideal) X1 (ix2 (crow n hn r) ⟨256 + l.val, by omega⟩) := by
  have e1 : k0_t1_loop.trips = (⟨1, by decide⟩ : Fin k0_t1_loop.trips).val + 1 := trips1
  have e0 : (⟨1, by decide⟩ : Fin k0_t1_loop.trips).val = (⟨0, by decide⟩ : Fin k0_t1_loop.trips).val + 1 := rfl
  rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips = _ from congrArg _ e1, pb_k0_t1_succ]
  rw [View.writes_append]
  by_cases h : n = 1
  · subst h
    exact t1_key_in 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨1, by decide⟩ r l
  · obtain rfl : n = 0 := by omega
    refine (t1_key_out 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨1, by decide⟩ 0 hn r l (by decide)).trans ?_
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 (⟨1, by decide⟩ : Fin k0_t1_loop.trips).val = _ from congrArg _ e0, pb_k0_t1_succ]
    rw [View.writes_append]
    exact t1_key_in 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨0, by decide⟩ r l

/-- A trip's step of any head's forward state. -/
theorem t1_head (v132 : Vec Ideal S1x256 .f32) (k : Fin k0_t1_loop.trips) (h : Fin 4) (l : Fin 256) (v : Fin 128) (hl : l.val % 128 / 32 = h.val) :
    arg11.view.read (Elt Ideal) (arg11.view.writes (Elt Ideal) G11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 k).2.2.1 G9 G10 G11)) (ix4 0 h l v)
      = fstep (arg1.view.read (Elt Ideal) X1) v132 (arg5.view.read (Elt Ideal) X5) k.val (lt1 k) h l v (arg11.view.read (Elt Ideal) G11 (ix4 0 h l v)) := by
  match h, hl with
  | ⟨0, _⟩, hl => exact t1_h0 𝒱 c bd i arg1 harg1 arg2 harg2 arg3 harg3 arg4 harg4 arg5 harg5 arg6 harg6 arg7 harg7 arg8 harg8 arg9 harg9 arg10 harg10 arg11 harg11 arg12 harg12 X1 X5 X12 G9 G10 G11 v132 k l v hl
  | ⟨1, _⟩, hl => exact t1_h1 𝒱 c bd i arg1 harg1 arg2 harg2 arg3 harg3 arg4 harg4 arg5 harg5 arg6 harg6 arg7 harg7 arg8 harg8 arg9 harg9 arg10 harg10 arg11 harg11 arg12 harg12 X1 X5 X12 G9 G10 G11 v132 k l v hl
  | ⟨2, _⟩, hl => exact t1_h2 𝒱 c bd i arg1 harg1 arg2 harg2 arg3 harg3 arg4 harg4 arg5 harg5 arg6 harg6 arg7 harg7 arg8 harg8 arg9 harg9 arg10 harg10 arg11 harg11 arg12 harg12 X1 X5 X12 G9 G10 G11 v132 k l v hl
  | ⟨3, _⟩, hl => exact t1_h3 𝒱 c bd i arg1 harg1 arg2 harg2 arg3 harg3 arg4 harg4 arg5 harg5 arg6 harg6 arg7 harg7 arg8 harg8 arg9 harg9 arg10 harg10 arg11 harg11 arg12 harg12 X1 X5 X12 G9 G10 G11 v132 k l v hl

/-- A trip's step of any head's backward state. -/
theorem t2_head (v134 : Vec Ideal S1x256 .f32) (k : Fin k0_t2_loop.trips) (h : Fin 4) (l : Fin 256) (v : Fin 128) (hl : l.val % 128 / 32 = h.val) :
    arg11.view.read (Elt Ideal) (arg11.view.writes (Elt Ideal) G11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 k).2.1 G10 G11)) (ix4 1 h l v)
      = bstep (arg1.view.read (Elt Ideal) X1) (arg9.view.read (Elt Ideal) X9) v134 (arg5.view.read (Elt Ideal) X5) (1 - k.val) (lt2' k) h l v (arg11.view.read (Elt Ideal) G11 (ix4 1 h l v)) := by
  match h, hl with
  | ⟨0, _⟩, hl => exact t2_h0 𝒱 c bd i arg1 harg1 arg2 harg2 arg3 harg3 arg4 harg4 arg5 harg5 arg6 harg6 arg7 harg7 arg8 harg8 arg9 harg9 arg10 harg10 arg11 harg11 arg12 harg12 X1 X5 X9 G10 G11 v134 k l v hl
  | ⟨1, _⟩, hl => exact t2_h1 𝒱 c bd i arg1 harg1 arg2 harg2 arg3 harg3 arg4 harg4 arg5 harg5 arg6 harg6 arg7 harg7 arg8 harg8 arg9 harg9 arg10 harg10 arg11 harg11 arg12 harg12 X1 X5 X9 G10 G11 v134 k l v hl
  | ⟨2, _⟩, hl => exact t2_h2 𝒱 c bd i arg1 harg1 arg2 harg2 arg3 harg3 arg4 harg4 arg5 harg5 arg6 harg6 arg7 harg7 arg8 harg8 arg9 harg9 arg10 harg10 arg11 harg11 arg12 harg12 X1 X5 X9 G10 G11 v134 k l v hl
  | ⟨3, _⟩, hl => exact t2_h3 𝒱 c bd i arg1 harg1 arg2 harg2 arg3 harg3 arg4 harg4 arg5 harg5 arg6 harg6 arg7 harg7 arg8 harg8 arg9 harg9 arg10 harg10 arg11 harg11 arg12 harg12 X1 X5 X9 G10 G11 v134 k l v hl

/-- After loop 1, the states it carries. -/
theorem loop1_own (v132 : Vec Ideal S1x256 .f32) (h : Fin 4) (l : Fin 256) (v : Fin 128) (hl : l.val % 128 / 32 = h.val) :
    arg11.view.read (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips).2.2) (ix4 0 h l v)
      = fstep (arg1.view.read (Elt Ideal) X1) v132 (arg5.view.read (Elt Ideal) X5) 1 (by decide) h l v (fstep (arg1.view.read (Elt Ideal) X1) v132 (arg5.view.read (Elt Ideal) X5) 0 (by decide) h l v (arg11.view.read (Elt Ideal) G11 (ix4 0 h l v))) := by
  have e1 : k0_t1_loop.trips = (⟨1, by decide⟩ : Fin k0_t1_loop.trips).val + 1 := trips1
  have e0 : (⟨1, by decide⟩ : Fin k0_t1_loop.trips).val = (⟨0, by decide⟩ : Fin k0_t1_loop.trips).val + 1 := rfl
  rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips = _ from congrArg _ e1, pb_k0_t1_succ]
  rw [View.writes_append]
  refine (t1_head 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨1, by decide⟩ h l v hl).trans ?_
  refine congrArg (fstep _ _ _ 1 (by decide) h l v) ?_
  rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 (⟨1, by decide⟩ : Fin k0_t1_loop.trips).val = _ from congrArg _ e0, pb_k0_t1_succ]
  rw [View.writes_append]
  exact t1_head 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨0, by decide⟩ h l v hl

/-- After loop 1, the other states. -/
theorem loop1_other (v132 : Vec Ideal S1x256 .f32) (h : Fin 4) (l : Fin 256) (v : Fin 128) :
    arg11.view.read (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips).2.2) (ix4 1 h l v)
      = arg11.view.read (Elt Ideal) G11 (ix4 1 h l v) := by
  have e1 : k0_t1_loop.trips = (⟨1, by decide⟩ : Fin k0_t1_loop.trips).val + 1 := trips1
  have e0 : (⟨1, by decide⟩ : Fin k0_t1_loop.trips).val = (⟨0, by decide⟩ : Fin k0_t1_loop.trips).val + 1 := rfl
  rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 k0_t1_loop.trips = _ from congrArg _ e1, pb_k0_t1_succ]
  rw [View.writes_append]
  refine (t1_other 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨1, by decide⟩ h l v).trans ?_
  rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 G11 (⟨1, by decide⟩ : Fin k0_t1_loop.trips).val = _ from congrArg _ e0, pb_k0_t1_succ]
  rw [View.writes_append]
  exact t1_other 𝒱 c bd i arg1 harg1 arg2 harg2 arg3 harg3 arg4 harg4 arg5 harg5 arg6 harg6 arg7 harg7 arg8 harg8 arg9 harg9 arg10 harg10 arg11 harg11 arg12 harg12 X1 X5 X12 _ _ _ v132 ⟨0, by decide⟩ h l v

/-- After loop 2, the states it carries. -/
theorem loop2_own (v134 : Vec Ideal S1x256 .f32) (h : Fin 4) (l : Fin 256) (v : Fin 128) (hl : l.val % 128 / 32 = h.val) :
    arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 k0_t2_loop.trips).2) (ix4 1 h l v)
      = bstep (arg1.view.read (Elt Ideal) X1) (arg9.view.read (Elt Ideal) X9) v134 (arg5.view.read (Elt Ideal) X5) 0 (by decide) h l v (bstep (arg1.view.read (Elt Ideal) X1) (arg9.view.read (Elt Ideal) X9) v134 (arg5.view.read (Elt Ideal) X5) 1 (by decide) h l v (arg11.view.read (Elt Ideal) G11 (ix4 1 h l v))) := by
  have e1 : k0_t2_loop.trips = (⟨1, by decide⟩ : Fin k0_t2_loop.trips).val + 1 := trips2
  have e0 : (⟨1, by decide⟩ : Fin k0_t2_loop.trips).val = (⟨0, by decide⟩ : Fin k0_t2_loop.trips).val + 1 := rfl
  rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 k0_t2_loop.trips = _ from congrArg _ e1, pb_k0_t2_succ]
  rw [View.writes_append]
  refine (t2_head 𝒱 c bd i arg1 harg1 arg2 harg2 arg3 harg3 arg4 harg4 arg5 harg5 arg6 harg6 arg7 harg7 arg8 harg8 arg9 harg9 arg10 harg10 arg11 harg11 arg12 harg12 X1 X5 X9 _ _ v134 ⟨1, by decide⟩ h l v hl).trans ?_
  refine congrArg (bstep _ _ _ _ 0 (by decide) h l v) ?_
  rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 (⟨1, by decide⟩ : Fin k0_t2_loop.trips).val = _ from congrArg _ e0, pb_k0_t2_succ]
  rw [View.writes_append]
  exact t2_head 𝒱 c bd i arg1 harg1 arg2 harg2 arg3 harg3 arg4 harg4 arg5 harg5 arg6 harg6 arg7 harg7 arg8 harg8 arg9 harg9 arg10 harg10 arg11 harg11 arg12 harg12 X1 X5 X9 _ _ v134 ⟨0, by decide⟩ h l v hl

/-- After loop 2, the other states. -/
theorem loop2_other (v134 : Vec Ideal S1x256 .f32) (h : Fin 4) (l : Fin 256) (v : Fin 128) :
    arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 k0_t2_loop.trips).2) (ix4 0 h l v)
      = arg11.view.read (Elt Ideal) G11 (ix4 0 h l v) := by
  have e1 : k0_t2_loop.trips = (⟨1, by decide⟩ : Fin k0_t2_loop.trips).val + 1 := trips2
  have e0 : (⟨1, by decide⟩ : Fin k0_t2_loop.trips).val = (⟨0, by decide⟩ : Fin k0_t2_loop.trips).val + 1 := rfl
  rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 k0_t2_loop.trips = _ from congrArg _ e1, pb_k0_t2_succ]
  rw [View.writes_append]
  refine (t2_other 𝒱 c bd i arg1 harg1 arg2 harg2 arg3 harg3 arg4 harg4 arg5 harg5 arg6 harg6 arg7 harg7 arg8 harg8 arg9 harg9 arg10 harg10 arg11 harg11 arg12 harg12 X1 X5 X9 _ _ v134 ⟨1, by decide⟩ h l v).trans ?_
  rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 X9 G10 G11 (⟨1, by decide⟩ : Fin k0_t2_loop.trips).val = _ from congrArg _ e0, pb_k0_t2_succ]
  rw [View.writes_append]
  exact t2_other 𝒱 c bd i arg1 harg1 arg2 harg2 arg3 harg3 arg4 harg4 arg5 harg5 arg6 harg6 arg7 harg7 arg8 harg8 arg9 harg9 arg10 harg10 arg11 harg11 arg12 harg12 X1 X5 X9 _ _ v134 ⟨0, by decide⟩ h l v

end Cert.KernelIdeal.Hand

end
-- ==== Proof.RetOut.lean ====
/- The final states the retention kernel stores, from the states its loops leave. -/
module

public import proofs.«01_k».proof.Proof.Gen.KernelIdeal.Loops
public import proofs.«01_k».proof.Proof.Gen.KernelIdeal.Frame
public import proofs.«01_k».proof.Proof.RetLoop
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The lane of head `h`'s key channel `j`: its lane in a half's 128, in the half `j` falls in. -/
def lane (h : Fin 4) (j : Fin 64) : Fin 256 := ⟨128 * (j.val / 32) + 32 * h.val + j.val % 32, by omega⟩

/-- The final states of one block: the two chunks forward from nothing, and backward from nothing. -/
def st8 (x : Vec Ideal S256x1536 .bf16) (g : Vec Ideal S2x256 .f32) (a : Vec Ideal S2x4x128 .f32) : Vec Ideal S1x2x4x64x128 .f32 := fun ix =>
  if (ix 1).val = 0 then
    fstep x (fun y => g (ix2 0 (y 1 : Fin 256))) a 1 (by decide) (ix 2 : Fin 4) (lane (ix 2 : Fin 4) (ix 3 : Fin 64)) (ix 4 : Fin 128)
      (fstep x (fun y => g (ix2 0 (y 1 : Fin 256))) a 0 (by decide) (ix 2 : Fin 4) (lane (ix 2 : Fin 4) (ix 3 : Fin 64)) (ix 4 : Fin 128) (Ideal.ofBits .f32 0x00000000#32))
  else
    bstep x (fun y => x (ix2 (y 0 : Fin 256) (Fin.castLE (by decide : 512 ≤ 1536) (y 1 : Fin 512)))) (fun y => g (ix2 1 (y 1 : Fin 256))) a 0 (by decide) (ix 2 : Fin 4) (lane (ix 2 : Fin 4) (ix 3 : Fin 64)) (ix 4 : Fin 128)
      (bstep x (fun y => x (ix2 (y 0 : Fin 256) (Fin.castLE (by decide : 512 ≤ 1536) (y 1 : Fin 512)))) (fun y => g (ix2 1 (y 1 : Fin 256))) a 1 (by decide) (ix 2 : Fin 4) (lane (ix 2 : Fin 4) (ix 3 : Fin 64)) (ix 4 : Fin 128) (Ideal.ofBits .f32 0x00000000#32))

theorem pay86_e (z : Vec Ideal S1x1x32x128 .f32) (e : Fin 32) (v : Fin 128) : k0_pay86 z (ix5 0 0 0 e v) = z (ix4 0 0 e v) := by
  pointwise [k0_pay86]
theorem pay87_e (z : Vec Ideal S1x1x32x128 .f32) (e : Fin 32) (v : Fin 128) : k0_pay87 z (ix5 0 0 0 e v) = z (ix4 0 0 e v) := by
  pointwise [k0_pay87]
theorem pay88_e (z : Vec Ideal S1x1x32x128 .f32) (e : Fin 32) (v : Fin 128) : k0_pay88 z (ix5 0 0 0 e v) = z (ix4 0 0 e v) := by
  pointwise [k0_pay88]
theorem pay89_e (z : Vec Ideal S1x1x32x128 .f32) (e : Fin 32) (v : Fin 128) : k0_pay89 z (ix5 0 0 0 e v) = z (ix4 0 0 e v) := by
  pointwise [k0_pay89]
theorem pay90_e (z : Vec Ideal S1x1x32x128 .f32) (e : Fin 32) (v : Fin 128) : k0_pay90 z (ix5 0 0 0 e v) = z (ix4 0 0 e v) := by
  pointwise [k0_pay90]
theorem pay91_e (z : Vec Ideal S1x1x32x128 .f32) (e : Fin 32) (v : Fin 128) : k0_pay91 z (ix5 0 0 0 e v) = z (ix4 0 0 e v) := by
  pointwise [k0_pay91]
theorem pay92_e (z : Vec Ideal S1x1x32x128 .f32) (e : Fin 32) (v : Fin 128) : k0_pay92 z (ix5 0 0 0 e v) = z (ix4 0 0 e v) := by
  pointwise [k0_pay92]
theorem pay93_e (z : Vec Ideal S1x1x32x128 .f32) (e : Fin 32) (v : Fin 128) : k0_pay93 z (ix5 0 0 0 e v) = z (ix4 0 0 e v) := by
  pointwise [k0_pay93]
theorem pay94_e (z : Vec Ideal S1x1x32x128 .f32) (e : Fin 32) (v : Fin 128) : k0_pay94 z (ix5 0 0 0 e v) = z (ix4 0 0 e v) := by
  pointwise [k0_pay94]
theorem pay95_e (z : Vec Ideal S1x1x32x128 .f32) (e : Fin 32) (v : Fin 128) : k0_pay95 z (ix5 0 0 0 e v) = z (ix4 0 0 e v) := by
  pointwise [k0_pay95]
theorem pay96_e (z : Vec Ideal S1x1x32x128 .f32) (e : Fin 32) (v : Fin 128) : k0_pay96 z (ix5 0 0 0 e v) = z (ix4 0 0 e v) := by
  pointwise [k0_pay96]
theorem pay97_e (z : Vec Ideal S1x1x32x128 .f32) (e : Fin 32) (v : Fin 128) : k0_pay97 z (ix5 0 0 0 e v) = z (ix4 0 0 e v) := by
  pointwise [k0_pay97]
theorem pay98_e (z : Vec Ideal S1x1x32x128 .f32) (e : Fin 32) (v : Fin 128) : k0_pay98 z (ix5 0 0 0 e v) = z (ix4 0 0 e v) := by
  pointwise [k0_pay98]
theorem pay1_e (z : Vec Ideal S1x1x32x128 .f32) (e : Fin 32) (v : Fin 128) : k0_pay1 z (ix5 0 0 0 e v) = z (ix4 0 0 e v) := by
  pointwise [k0_pay1]
theorem pay2_e (z : Vec Ideal S1x1x32x128 .f32) (e : Fin 32) (v : Fin 128) : k0_pay2 z (ix5 0 0 0 e v) = z (ix4 0 0 e v) := by
  pointwise [k0_pay2]
theorem pay3_e (z : Vec Ideal S1x1x32x128 .f32) (e : Fin 32) (v : Fin 128) : k0_pay3 z (ix5 0 0 0 e v) = z (ix4 0 0 e v) := by
  pointwise [k0_pay3]

/-- A load of a head's half of the lanes, at an entry. -/
theorem rd4h (w : View sig .tc .vmem S2x4x256x128 .f32) (f : w.ty.Contents (Elt Ideal)) (d : Fin 2) (h : Fin 4) (o : ℕ)
    (inb : ∀ a, (![d.val, h.val, o, 0] : Fin 4 → ℕ) a + (![1, 1, 32, 128] : Fin 4 → ℕ) a ≤ S2x4x256x128.size a) (e : Fin 32) (v : Fin 128) (l : Fin 256) (hl : l.val = o + e.val) :
    w.readAt (Elt Ideal) (Rect.unit (s := S2x4x256x128) ![d.val, h.val, o, 0] ![1, 1, 32, 128] inb).toLoadRect f (ix4 0 0 e v) = w.read (Elt Ideal) f (ix4 d h l v) := by
  refine congrArg (w.read (Elt Ideal) f) (funext fun a => Fin.ext ?_)
  match a with
  | ⟨0, _⟩ => show d.val + 1 * 0 = d.val; omega
  | ⟨1, _⟩ => show h.val + 1 * 0 = h.val; omega
  | ⟨2, _⟩ => show o + 1 * e.val = l.val; omega
  | ⟨3, _⟩ => show 0 + 1 * v.val = v.val; omega

/-- Under another store an entry of the final states is unchanged. -/
theorem skip5 (w : View sig .tc .vmem S1x2x4x64x128 .f32) (f : w.ty.Contents (Elt Ideal)) (d : Fin 2) (h : Fin 4) (j : Fin 64) (v : Fin 128) (d' h' o : ℕ)
    (inb : ∀ a, (![0, d', h', o, 0] : Fin 5 → ℕ) a + (![1, 1, 1, 32, 128] : Fin 5 → ℕ) a ≤ S1x2x4x64x128.size a)
    (p : (Rect.unit (s := S1x2x4x64x128) ![0, d', h', o, 0] ![1, 1, 1, 32, 128] inb).shape.Idx → Elt Ideal .f32) (L : List (View.Piece (Elt Ideal) S1x2x4x64x128 .f32))
    (hne : d.val ≠ d' ∨ h.val ≠ h' ∨ j.val < o ∨ o + 32 ≤ j.val) :
    w.read (Elt Ideal) (w.writes (Elt Ideal) f (⟨Rect.unit (s := S1x2x4x64x128) ![0, d', h', o, 0] ![1, 1, 1, 32, 128] inb, p⟩ :: L)) (ix5 0 d h j v)
      = w.read (Elt Ideal) (w.writes (Elt Ideal) f L) (ix5 0 d h j v) := by
  rcases hne with hne | hne | hne
  · exact View.read_writes_cons_unit_of_not_mem w f inb p L _ rfl 1 (by show d.val < d' ∨ d' + 1 ≤ d.val; omega)
  · exact View.read_writes_cons_unit_of_not_mem w f inb p L _ rfl 2 (by show h.val < h' ∨ h' + 1 ≤ h.val; omega)
  · exact View.read_writes_cons_unit_of_not_mem w f inb p L _ rfl 3 (by show j.val < o ∨ o + 32 ≤ j.val; omega)

/-- Under its own store an entry of the final states is the payload's. -/
theorem hit5 (w : View sig .tc .vmem S1x2x4x64x128 .f32) (f : w.ty.Contents (Elt Ideal)) (d : Fin 2) (h : Fin 4) (j : Fin 64) (v : Fin 128) (o : ℕ)
    (inb : ∀ a, (![0, d.val, h.val, o, 0] : Fin 5 → ℕ) a + (![1, 1, 1, 32, 128] : Fin 5 → ℕ) a ≤ S1x2x4x64x128.size a)
    (p : Vec Ideal S1x1x1x32x128 .f32) (L : List (View.Piece (Elt Ideal) S1x2x4x64x128 .f32)) (e : Fin 32) (he : j.val = o + e.val) :
    w.read (Elt Ideal) (w.writes (Elt Ideal) f (⟨Rect.unit (s := S1x2x4x64x128) ![0, d.val, h.val, o, 0] ![1, 1, 1, 32, 128] inb, p⟩ :: L)) (ix5 0 d h j v)
      = p (ix5 0 0 0 e v) := by
  refine View.read_writes_cons_unit_of_mem w f inb p L _ (ix5 (0 : Fin 1) (0 : Fin 1) (0 : Fin 1) e v) rfl fun a => ?_
  match a with
  | ⟨0, _⟩ => rfl
  | ⟨1, _⟩ => show d.val = d.val + 0; omega
  | ⟨2, _⟩ => show h.val = h.val + 0; omega
  | ⟨3, _⟩ => show j.val = o + e.val; omega
  | ⟨4, _⟩ => show v.val = 0 + v.val; omega

/-- The sixteen stores of the final states, the last first. -/
abbrev stores8 (w : View sig .tc .vmem S2x4x256x128 .f32) (f : w.ty.Contents (Elt Ideal)) : List (View.Piece (Elt Ideal) S1x2x4x64x128 .f32) :=
  [⟨Rect.unit (s := S1x2x4x64x128) ![0, 1, 3, 32, 0] ![1, 1, 1, 32, 128] inb_S1x2x4x64x128_S1x1x1x32x128_0_1_3_32_0, k0_pay3 (F := Ideal) (w.readAt (Elt Ideal) (Rect.unit (s := S2x4x256x128) ![1, 3, 224, 0] S1x1x32x128.size inb_S2x4x256x128_S1x1x32x128_1_3_224_0).toLoadRect f)⟩,
    ⟨Rect.unit (s := S1x2x4x64x128) ![0, 1, 3, 0, 0] ![1, 1, 1, 32, 128] inb_S1x2x4x64x128_S1x1x1x32x128_0_1_3_0_0, k0_pay2 (F := Ideal) (w.readAt (Elt Ideal) (Rect.unit (s := S2x4x256x128) ![1, 3, 96, 0] S1x1x32x128.size inb_S2x4x256x128_S1x1x32x128_1_3_96_0).toLoadRect f)⟩,
    ⟨Rect.unit (s := S1x2x4x64x128) ![0, 1, 2, 32, 0] ![1, 1, 1, 32, 128] inb_S1x2x4x64x128_S1x1x1x32x128_0_1_2_32_0, k0_pay1 (F := Ideal) (w.readAt (Elt Ideal) (Rect.unit (s := S2x4x256x128) ![1, 2, 192, 0] S1x1x32x128.size inb_S2x4x256x128_S1x1x32x128_1_2_192_0).toLoadRect f)⟩,
    ⟨Rect.unit (s := S1x2x4x64x128) ![0, 1, 2, 0, 0] ![1, 1, 1, 32, 128] inb_S1x2x4x64x128_S1x1x1x32x128_0_1_2_0_0, k0_pay98 (F := Ideal) (w.readAt (Elt Ideal) (Rect.unit (s := S2x4x256x128) ![1, 2, 64, 0] S1x1x32x128.size inb_S2x4x256x128_S1x1x32x128_1_2_64_0).toLoadRect f)⟩,
    ⟨Rect.unit (s := S1x2x4x64x128) ![0, 1, 1, 32, 0] ![1, 1, 1, 32, 128] inb_S1x2x4x64x128_S1x1x1x32x128_0_1_1_32_0, k0_pay97 (F := Ideal) (w.readAt (Elt Ideal) (Rect.unit (s := S2x4x256x128) ![1, 1, 160, 0] S1x1x32x128.size inb_S2x4x256x128_S1x1x32x128_1_1_160_0).toLoadRect f)⟩,
    ⟨Rect.unit (s := S1x2x4x64x128) ![0, 1, 1, 0, 0] ![1, 1, 1, 32, 128] inb_S1x2x4x64x128_S1x1x1x32x128_0_1_1_0_0, k0_pay96 (F := Ideal) (w.readAt (Elt Ideal) (Rect.unit (s := S2x4x256x128) ![1, 1, 32, 0] S1x1x32x128.size inb_S2x4x256x128_S1x1x32x128_1_1_32_0).toLoadRect f)⟩,
    ⟨Rect.unit (s := S1x2x4x64x128) ![0, 1, 0, 32, 0] ![1, 1, 1, 32, 128] inb_S1x2x4x64x128_S1x1x1x32x128_0_1_0_32_0, k0_pay95 (F := Ideal) (w.readAt (Elt Ideal) (Rect.unit (s := S2x4x256x128) ![1, 0, 128, 0] S1x1x32x128.size inb_S2x4x256x128_S1x1x32x128_1_0_128_0).toLoadRect f)⟩,
    ⟨Rect.unit (s := S1x2x4x64x128) ![0, 1, 0, 0, 0] ![1, 1, 1, 32, 128] inb_S1x2x4x64x128_S1x1x1x32x128_0_1_0_0_0, k0_pay94 (F := Ideal) (w.readAt (Elt Ideal) (Rect.unit (s := S2x4x256x128) ![1, 0, 0, 0] S1x1x32x128.size inb_S2x4x256x128_S1x1x32x128_1_0_0_0).toLoadRect f)⟩,
    ⟨Rect.unit (s := S1x2x4x64x128) ![0, 0, 3, 32, 0] ![1, 1, 1, 32, 128] inb_S1x2x4x64x128_S1x1x1x32x128_0_0_3_32_0, k0_pay93 (F := Ideal) (w.readAt (Elt Ideal) (Rect.unit (s := S2x4x256x128) ![0, 3, 224, 0] S1x1x32x128.size inb_S2x4x256x128_S1x1x32x128_0_3_224_0).toLoadRect f)⟩,
    ⟨Rect.unit (s := S1x2x4x64x128) ![0, 0, 3, 0, 0] ![1, 1, 1, 32, 128] inb_S1x2x4x64x128_S1x1x1x32x128_0_0_3_0_0, k0_pay92 (F := Ideal) (w.readAt (Elt Ideal) (Rect.unit (s := S2x4x256x128) ![0, 3, 96, 0] S1x1x32x128.size inb_S2x4x256x128_S1x1x32x128_0_3_96_0).toLoadRect f)⟩,
    ⟨Rect.unit (s := S1x2x4x64x128) ![0, 0, 2, 32, 0] ![1, 1, 1, 32, 128] inb_S1x2x4x64x128_S1x1x1x32x128_0_0_2_32_0, k0_pay91 (F := Ideal) (w.readAt (Elt Ideal) (Rect.unit (s := S2x4x256x128) ![0, 2, 192, 0] S1x1x32x128.size inb_S2x4x256x128_S1x1x32x128_0_2_192_0).toLoadRect f)⟩,
    ⟨Rect.unit (s := S1x2x4x64x128) ![0, 0, 2, 0, 0] ![1, 1, 1, 32, 128] inb_S1x2x4x64x128_S1x1x1x32x128_0_0_2_0_0, k0_pay90 (F := Ideal) (w.readAt (Elt Ideal) (Rect.unit (s := S2x4x256x128) ![0, 2, 64, 0] S1x1x32x128.size inb_S2x4x256x128_S1x1x32x128_0_2_64_0).toLoadRect f)⟩,
    ⟨Rect.unit (s := S1x2x4x64x128) ![0, 0, 1, 32, 0] ![1, 1, 1, 32, 128] inb_S1x2x4x64x128_S1x1x1x32x128_0_0_1_32_0, k0_pay89 (F := Ideal) (w.readAt (Elt Ideal) (Rect.unit (s := S2x4x256x128) ![0, 1, 160, 0] S1x1x32x128.size inb_S2x4x256x128_S1x1x32x128_0_1_160_0).toLoadRect f)⟩,
    ⟨Rect.unit (s := S1x2x4x64x128) ![0, 0, 1, 0, 0] ![1, 1, 1, 32, 128] inb_S1x2x4x64x128_S1x1x1x32x128_0_0_1_0_0, k0_pay88 (F := Ideal) (w.readAt (Elt Ideal) (Rect.unit (s := S2x4x256x128) ![0, 1, 32, 0] S1x1x32x128.size inb_S2x4x256x128_S1x1x32x128_0_1_32_0).toLoadRect f)⟩,
    ⟨Rect.unit (s := S1x2x4x64x128) ![0, 0, 0, 32, 0] ![1, 1, 1, 32, 128] inb_S1x2x4x64x128_S1x1x1x32x128_0_0_0_32_0, k0_pay87 (F := Ideal) (w.readAt (Elt Ideal) (Rect.unit (s := S2x4x256x128) ![0, 0, 128, 0] S1x1x32x128.size inb_S2x4x256x128_S1x1x32x128_0_0_128_0).toLoadRect f)⟩,
    ⟨Rect.unit (s := S1x2x4x64x128) ![0, 0, 0, 0, 0] ![1, 1, 1, 32, 128] inb_S1x2x4x64x128_S1x1x1x32x128_0_0_0_0_0, k0_pay86 (F := Ideal) (w.readAt (Elt Ideal) (Rect.unit (s := S2x4x256x128) ![0, 0, 0, 0] S1x1x32x128.size inb_S2x4x256x128_S1x1x32x128_0_0_0_0).toLoadRect f)⟩]

theorem stores8_000 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 0 0 j v) = w.read (Elt Ideal) f (ix4 0 0 (lane 0 j) v) := by
  unfold stores8
  refine (skip5 _ _ 0 0 j v 1 3 32 _ _ _ (.inl (by decide))).trans ?_
  refine (skip5 _ _ 0 0 j v 1 3 0 _ _ _ (.inl (by decide))).trans ?_
  refine (skip5 _ _ 0 0 j v 1 2 32 _ _ _ (.inl (by decide))).trans ?_
  refine (skip5 _ _ 0 0 j v 1 2 0 _ _ _ (.inl (by decide))).trans ?_
  refine (skip5 _ _ 0 0 j v 1 1 32 _ _ _ (.inl (by decide))).trans ?_
  refine (skip5 _ _ 0 0 j v 1 1 0 _ _ _ (.inl (by decide))).trans ?_
  refine (skip5 _ _ 0 0 j v 1 0 32 _ _ _ (.inl (by decide))).trans ?_
  refine (skip5 _ _ 0 0 j v 1 0 0 _ _ _ (.inl (by decide))).trans ?_
  refine (skip5 _ _ 0 0 j v 0 3 32 _ _ _ (.inr (.inl (by decide)))).trans ?_
  refine (skip5 _ _ 0 0 j v 0 3 0 _ _ _ (.inr (.inl (by decide)))).trans ?_
  refine (skip5 _ _ 0 0 j v 0 2 32 _ _ _ (.inr (.inl (by decide)))).trans ?_
  refine (skip5 _ _ 0 0 j v 0 2 0 _ _ _ (.inr (.inl (by decide)))).trans ?_
  refine (skip5 _ _ 0 0 j v 0 1 32 _ _ _ (.inr (.inl (by decide)))).trans ?_
  refine (skip5 _ _ 0 0 j v 0 1 0 _ _ _ (.inr (.inl (by decide)))).trans ?_
  refine (skip5 _ _ 0 0 j v 0 0 32 _ _ _ (.inr (.inr (by omega)))).trans ?_
  refine (hit5 _ _ 0 0 j v 0 _ _ _ ⟨j.val % 32, by omega⟩ (by show j.val = 0 + j.val % 32; omega)).trans ?_
  refine (pay86_e _ _ v).trans ?_
  exact rd4h w f 0 0 0 _ _ v (lane 0 j) (by show 128 * (j.val / 32) + 32 * 0 + j.val % 32 = 0 + j.val % 32; omega)

theorem stores8_001 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 0 0 j v) = w.read (Elt Ideal) f (ix4 0 0 (lane 0 j) v) := by
  unfold stores8
  refine (skip5 _ _ 0 0 j v 1 3 32 _ _ _ (.inl (by decide))).trans ?_
  refine (skip5 _ _ 0 0 j v 1 3 0 _ _ _ (.inl (by decide))).trans ?_
  refine (skip5 _ _ 0 0 j v 1 2 32 _ _ _ (.inl (by decide))).trans ?_
  refine (skip5 _ _ 0 0 j v 1 2 0 _ _ _ (.inl (by decide))).trans ?_
  refine (skip5 _ _ 0 0 j v 1 1 32 _ _ _ (.inl (by decide))).trans ?_
  refine (skip5 _ _ 0 0 j v 1 1 0 _ _ _ (.inl (by decide))).trans ?_
  refine (skip5 _ _ 0 0 j v 1 0 32 _ _ _ (.inl (by decide))).trans ?_
  refine (skip5 _ _ 0 0 j v 1 0 0 _ _ _ (.inl (by decide))).trans ?_
  refine (skip5 _ _ 0 0 j v 0 3 32 _ _ _ (.inr (.inl (by decide)))).trans ?_
  refine (skip5 _ _ 0 0 j v 0 3 0 _ _ _ (.inr (.inl (by decide)))).trans ?_
  refine (skip5 _ _ 0 0 j v 0 2 32 _ _ _ (.inr (.inl (by decide)))).trans ?_
  refine (skip5 _ _ 0 0 j v 0 2 0 _ _ _ (.inr (.inl (by decide)))).trans ?_
  refine (skip5 _ _ 0 0 j v 0 1 32 _ _ _ (.inr (.inl (by decide)))).trans ?_
  refine (skip5 _ _ 0 0 j v 0 1 0 _ _ _ (.inr (.inl (by decide)))).trans ?_
  refine (hit5 _ _ 0 0 j v 32 _ _ _ ⟨j.val % 32, by omega⟩ (by show j.val = 32 + j.val % 32; omega)).trans ?_
  refine (pay87_e _ _ v).trans ?_
  exact rd4h w f 0 0 128 _ _ v (lane 0 j) (by show 128 * (j.val / 32) + 32 * 0 + j.val % 32 = 128 + j.val % 32; omega)

theorem stores8_010 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 0 1 j v) = w.read (Elt Ideal) f (ix4 0 1 (lane 1 j) v) := by
  unfold stores8
  refine (skip5 _ _ 0 1 j v 1 3 32 _ _ _ (.inl (by decide))).trans ?_
  refine (skip5 _ _ 0 1 j v 1 3 0 _ _ _ (.inl (by decide))).trans ?_
  refine (skip5 _ _ 0 1 j v 1 2 32 _ _ _ (.inl (by decide))).trans ?_
  refine (skip5 _ _ 0 1 j v 1 2 0 _ _ _ (.inl (by decide))).trans ?_
  refine (skip5 _ _ 0 1 j v 1 1 32 _ _ _ (.inl (by decide))).trans ?_
  refine (skip5 _ _ 0 1 j v 1 1 0 _ _ _ (.inl (by decide))).trans ?_
  refine (skip5 _ _ 0 1 j v 1 0 32 _ _ _ (.inl (by decide))).trans ?_
  refine (skip5 _ _ 0 1 j v 1 0 0 _ _ _ (.inl (by decide))).trans ?_
  refine (skip5 _ _ 0 1 j v 0 3 32 _ _ _ (.inr (.inl (by decide)))).trans ?_
  refine (skip5 _ _ 0 1 j v 0 3 0 _ _ _ (.inr (.inl (by decide)))).trans ?_
  refine (skip5 _ _ 0 1 j v 0 2 32 _ _ _ (.inr (.inl (by decide)))).trans ?_
  refine (skip5 _ _ 0 1 j v 0 2 0 _ _ _ (.inr (.inl (by decide)))).trans ?_
  refine (skip5 _ _ 0 1 j v 0 1 32 _ _ _ (.inr (.inr (by omega)))).trans ?_
  refine (hit5 _ _ 0 1 j v 0 _ _ _ ⟨j.val % 32, by omega⟩ (by show j.val = 0 + j.val % 32; omega)).trans ?_
  refine (pay88_e _ _ v).trans ?_
  exact rd4h w f 0 1 32 _ _ v (lane 1 j) (by show 128 * (j.val / 32) + 32 * 1 + j.val % 32 = 32 + j.val % 32; omega)

theorem stores8_011 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 0 1 j v) = w.read (Elt Ideal) f (ix4 0 1 (lane 1 j) v) := by
  unfold stores8
  refine (skip5 _ _ 0 1 j v 1 3 32 _ _ _ (.inl (by decide))).trans ?_
  refine (skip5 _ _ 0 1 j v 1 3 0 _ _ _ (.inl (by decide))).trans ?_
  refine (skip5 _ _ 0 1 j v 1 2 32 _ _ _ (.inl (by decide))).trans ?_
  refine (skip5 _ _ 0 1 j v 1 2 0 _ _ _ (.inl (by decide))).trans ?_
  refine (skip5 _ _ 0 1 j v 1 1 32 _ _ _ (.inl (by decide))).trans ?_
  refine (skip5 _ _ 0 1 j v 1 1 0 _ _ _ (.inl (by decide))).trans ?_
  refine (skip5 _ _ 0 1 j v 1 0 32 _ _ _ (.inl (by decide))).trans ?_
  refine (skip5 _ _ 0 1 j v 1 0 0 _ _ _ (.inl (by decide))).trans ?_
  refine (skip5 _ _ 0 1 j v 0 3 32 _ _ _ (.inr (.inl (by decide)))).trans ?_
  refine (skip5 _ _ 0 1 j v 0 3 0 _ _ _ (.inr (.inl (by decide)))).trans ?_
  refine (skip5 _ _ 0 1 j v 0 2 32 _ _ _ (.inr (.inl (by decide)))).trans ?_
  refine (skip5 _ _ 0 1 j v 0 2 0 _ _ _ (.inr (.inl (by decide)))).trans ?_
  refine (hit5 _ _ 0 1 j v 32 _ _ _ ⟨j.val % 32, by omega⟩ (by show j.val = 32 + j.val % 32; omega)).trans ?_
  refine (pay89_e _ _ v).trans ?_
  exact rd4h w f 0 1 160 _ _ v (lane 1 j) (by show 128 * (j.val / 32) + 32 * 1 + j.val % 32 = 160 + j.val % 32; omega)

theorem stores8_020 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 0 2 j v) = w.read (Elt Ideal) f (ix4 0 2 (lane 2 j) v) := by
  unfold stores8
  refine (skip5 _ _ 0 2 j v 1 3 32 _ _ _ (.inl (by decide))).trans ?_
  refine (skip5 _ _ 0 2 j v 1 3 0 _ _ _ (.inl (by decide))).trans ?_
  refine (skip5 _ _ 0 2 j v 1 2 32 _ _ _ (.inl (by decide))).trans ?_
  refine (skip5 _ _ 0 2 j v 1 2 0 _ _ _ (.inl (by decide))).trans ?_
  refine (skip5 _ _ 0 2 j v 1 1 32 _ _ _ (.inl (by decide))).trans ?_
  refine (skip5 _ _ 0 2 j v 1 1 0 _ _ _ (.inl (by decide))).trans ?_
  refine (skip5 _ _ 0 2 j v 1 0 32 _ _ _ (.inl (by decide))).trans ?_
  refine (skip5 _ _ 0 2 j v 1 0 0 _ _ _ (.inl (by decide))).trans ?_
  refine (skip5 _ _ 0 2 j v 0 3 32 _ _ _ (.inr (.inl (by decide)))).trans ?_
  refine (skip5 _ _ 0 2 j v 0 3 0 _ _ _ (.inr (.inl (by decide)))).trans ?_
  refine (skip5 _ _ 0 2 j v 0 2 32 _ _ _ (.inr (.inr (by omega)))).trans ?_
  refine (hit5 _ _ 0 2 j v 0 _ _ _ ⟨j.val % 32, by omega⟩ (by show j.val = 0 + j.val % 32; omega)).trans ?_
  refine (pay90_e _ _ v).trans ?_
  exact rd4h w f 0 2 64 _ _ v (lane 2 j) (by show 128 * (j.val / 32) + 32 * 2 + j.val % 32 = 64 + j.val % 32; omega)

theorem stores8_021 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 0 2 j v) = w.read (Elt Ideal) f (ix4 0 2 (lane 2 j) v) := by
  unfold stores8
  refine (skip5 _ _ 0 2 j v 1 3 32 _ _ _ (.inl (by decide))).trans ?_
  refine (skip5 _ _ 0 2 j v 1 3 0 _ _ _ (.inl (by decide))).trans ?_
  refine (skip5 _ _ 0 2 j v 1 2 32 _ _ _ (.inl (by decide))).trans ?_
  refine (skip5 _ _ 0 2 j v 1 2 0 _ _ _ (.inl (by decide))).trans ?_
  refine (skip5 _ _ 0 2 j v 1 1 32 _ _ _ (.inl (by decide))).trans ?_
  refine (skip5 _ _ 0 2 j v 1 1 0 _ _ _ (.inl (by decide))).trans ?_
  refine (skip5 _ _ 0 2 j v 1 0 32 _ _ _ (.inl (by decide))).trans ?_
  refine (skip5 _ _ 0 2 j v 1 0 0 _ _ _ (.inl (by decide))).trans ?_
  refine (skip5 _ _ 0 2 j v 0 3 32 _ _ _ (.inr (.inl (by decide)))).trans ?_
  refine (skip5 _ _ 0 2 j v 0 3 0 _ _ _ (.inr (.inl (by decide)))).trans ?_
  refine (hit5 _ _ 0 2 j v 32 _ _ _ ⟨j.val % 32, by omega⟩ (by show j.val = 32 + j.val % 32; omega)).trans ?_
  refine (pay91_e _ _ v).trans ?_
  exact rd4h w f 0 2 192 _ _ v (lane 2 j) (by show 128 * (j.val / 32) + 32 * 2 + j.val % 32 = 192 + j.val % 32; omega)

theorem stores8_030 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 0 3 j v) = w.read (Elt Ideal) f (ix4 0 3 (lane 3 j) v) := by
  unfold stores8
  refine (skip5 _ _ 0 3 j v 1 3 32 _ _ _ (.inl (by decide))).trans ?_
  refine (skip5 _ _ 0 3 j v 1 3 0 _ _ _ (.inl (by decide))).trans ?_
  refine (skip5 _ _ 0 3 j v 1 2 32 _ _ _ (.inl (by decide))).trans ?_
  refine (skip5 _ _ 0 3 j v 1 2 0 _ _ _ (.inl (by decide))).trans ?_
  refine (skip5 _ _ 0 3 j v 1 1 32 _ _ _ (.inl (by decide))).trans ?_
  refine (skip5 _ _ 0 3 j v 1 1 0 _ _ _ (.inl (by decide))).trans ?_
  refine (skip5 _ _ 0 3 j v 1 0 32 _ _ _ (.inl (by decide))).trans ?_
  refine (skip5 _ _ 0 3 j v 1 0 0 _ _ _ (.inl (by decide))).trans ?_
  refine (skip5 _ _ 0 3 j v 0 3 32 _ _ _ (.inr (.inr (by omega)))).trans ?_
  refine (hit5 _ _ 0 3 j v 0 _ _ _ ⟨j.val % 32, by omega⟩ (by show j.val = 0 + j.val % 32; omega)).trans ?_
  refine (pay92_e _ _ v).trans ?_
  exact rd4h w f 0 3 96 _ _ v (lane 3 j) (by show 128 * (j.val / 32) + 32 * 3 + j.val % 32 = 96 + j.val % 32; omega)

theorem stores8_031 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 0 3 j v) = w.read (Elt Ideal) f (ix4 0 3 (lane 3 j) v) := by
  unfold stores8
  refine (skip5 _ _ 0 3 j v 1 3 32 _ _ _ (.inl (by decide))).trans ?_
  refine (skip5 _ _ 0 3 j v 1 3 0 _ _ _ (.inl (by decide))).trans ?_
  refine (skip5 _ _ 0 3 j v 1 2 32 _ _ _ (.inl (by decide))).trans ?_
  refine (skip5 _ _ 0 3 j v 1 2 0 _ _ _ (.inl (by decide))).trans ?_
  refine (skip5 _ _ 0 3 j v 1 1 32 _ _ _ (.inl (by decide))).trans ?_
  refine (skip5 _ _ 0 3 j v 1 1 0 _ _ _ (.inl (by decide))).trans ?_
  refine (skip5 _ _ 0 3 j v 1 0 32 _ _ _ (.inl (by decide))).trans ?_
  refine (skip5 _ _ 0 3 j v 1 0 0 _ _ _ (.inl (by decide))).trans ?_
  refine (hit5 _ _ 0 3 j v 32 _ _ _ ⟨j.val % 32, by omega⟩ (by show j.val = 32 + j.val % 32; omega)).trans ?_
  refine (pay93_e _ _ v).trans ?_
  exact rd4h w f 0 3 224 _ _ v (lane 3 j) (by show 128 * (j.val / 32) + 32 * 3 + j.val % 32 = 224 + j.val % 32; omega)

theorem stores8_100 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 1 0 j v) = w.read (Elt Ideal) f (ix4 1 0 (lane 0 j) v) := by
  unfold stores8
  refine (skip5 _ _ 1 0 j v 1 3 32 _ _ _ (.inr (.inl (by decide)))).trans ?_
  refine (skip5 _ _ 1 0 j v 1 3 0 _ _ _ (.inr (.inl (by decide)))).trans ?_
  refine (skip5 _ _ 1 0 j v 1 2 32 _ _ _ (.inr (.inl (by decide)))).trans ?_
  refine (skip5 _ _ 1 0 j v 1 2 0 _ _ _ (.inr (.inl (by decide)))).trans ?_
  refine (skip5 _ _ 1 0 j v 1 1 32 _ _ _ (.inr (.inl (by decide)))).trans ?_
  refine (skip5 _ _ 1 0 j v 1 1 0 _ _ _ (.inr (.inl (by decide)))).trans ?_
  refine (skip5 _ _ 1 0 j v 1 0 32 _ _ _ (.inr (.inr (by omega)))).trans ?_
  refine (hit5 _ _ 1 0 j v 0 _ _ _ ⟨j.val % 32, by omega⟩ (by show j.val = 0 + j.val % 32; omega)).trans ?_
  refine (pay94_e _ _ v).trans ?_
  exact rd4h w f 1 0 0 _ _ v (lane 0 j) (by show 128 * (j.val / 32) + 32 * 0 + j.val % 32 = 0 + j.val % 32; omega)

theorem stores8_101 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 1 0 j v) = w.read (Elt Ideal) f (ix4 1 0 (lane 0 j) v) := by
  unfold stores8
  refine (skip5 _ _ 1 0 j v 1 3 32 _ _ _ (.inr (.inl (by decide)))).trans ?_
  refine (skip5 _ _ 1 0 j v 1 3 0 _ _ _ (.inr (.inl (by decide)))).trans ?_
  refine (skip5 _ _ 1 0 j v 1 2 32 _ _ _ (.inr (.inl (by decide)))).trans ?_
  refine (skip5 _ _ 1 0 j v 1 2 0 _ _ _ (.inr (.inl (by decide)))).trans ?_
  refine (skip5 _ _ 1 0 j v 1 1 32 _ _ _ (.inr (.inl (by decide)))).trans ?_
  refine (skip5 _ _ 1 0 j v 1 1 0 _ _ _ (.inr (.inl (by decide)))).trans ?_
  refine (hit5 _ _ 1 0 j v 32 _ _ _ ⟨j.val % 32, by omega⟩ (by show j.val = 32 + j.val % 32; omega)).trans ?_
  refine (pay95_e _ _ v).trans ?_
  exact rd4h w f 1 0 128 _ _ v (lane 0 j) (by show 128 * (j.val / 32) + 32 * 0 + j.val % 32 = 128 + j.val % 32; omega)

theorem stores8_110 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 1 1 j v) = w.read (Elt Ideal) f (ix4 1 1 (lane 1 j) v) := by
  unfold stores8
  refine (skip5 _ _ 1 1 j v 1 3 32 _ _ _ (.inr (.inl (by decide)))).trans ?_
  refine (skip5 _ _ 1 1 j v 1 3 0 _ _ _ (.inr (.inl (by decide)))).trans ?_
  refine (skip5 _ _ 1 1 j v 1 2 32 _ _ _ (.inr (.inl (by decide)))).trans ?_
  refine (skip5 _ _ 1 1 j v 1 2 0 _ _ _ (.inr (.inl (by decide)))).trans ?_
  refine (skip5 _ _ 1 1 j v 1 1 32 _ _ _ (.inr (.inr (by omega)))).trans ?_
  refine (hit5 _ _ 1 1 j v 0 _ _ _ ⟨j.val % 32, by omega⟩ (by show j.val = 0 + j.val % 32; omega)).trans ?_
  refine (pay96_e _ _ v).trans ?_
  exact rd4h w f 1 1 32 _ _ v (lane 1 j) (by show 128 * (j.val / 32) + 32 * 1 + j.val % 32 = 32 + j.val % 32; omega)

theorem stores8_111 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 1 1 j v) = w.read (Elt Ideal) f (ix4 1 1 (lane 1 j) v) := by
  unfold stores8
  refine (skip5 _ _ 1 1 j v 1 3 32 _ _ _ (.inr (.inl (by decide)))).trans ?_
  refine (skip5 _ _ 1 1 j v 1 3 0 _ _ _ (.inr (.inl (by decide)))).trans ?_
  refine (skip5 _ _ 1 1 j v 1 2 32 _ _ _ (.inr (.inl (by decide)))).trans ?_
  refine (skip5 _ _ 1 1 j v 1 2 0 _ _ _ (.inr (.inl (by decide)))).trans ?_
  refine (hit5 _ _ 1 1 j v 32 _ _ _ ⟨j.val % 32, by omega⟩ (by show j.val = 32 + j.val % 32; omega)).trans ?_
  refine (pay97_e _ _ v).trans ?_
  exact rd4h w f 1 1 160 _ _ v (lane 1 j) (by show 128 * (j.val / 32) + 32 * 1 + j.val % 32 = 160 + j.val % 32; omega)

theorem stores8_120 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 1 2 j v) = w.read (Elt Ideal) f (ix4 1 2 (lane 2 j) v) := by
  unfold stores8
  refine (skip5 _ _ 1 2 j v 1 3 32 _ _ _ (.inr (.inl (by decide)))).trans ?_
  refine (skip5 _ _ 1 2 j v 1 3 0 _ _ _ (.inr (.inl (by decide)))).trans ?_
  refine (skip5 _ _ 1 2 j v 1 2 32 _ _ _ (.inr (.inr (by omega)))).trans ?_
  refine (hit5 _ _ 1 2 j v 0 _ _ _ ⟨j.val % 32, by omega⟩ (by show j.val = 0 + j.val % 32; omega)).trans ?_
  refine (pay98_e _ _ v).trans ?_
  exact rd4h w f 1 2 64 _ _ v (lane 2 j) (by show 128 * (j.val / 32) + 32 * 2 + j.val % 32 = 64 + j.val % 32; omega)

theorem stores8_121 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 1 2 j v) = w.read (Elt Ideal) f (ix4 1 2 (lane 2 j) v) := by
  unfold stores8
  refine (skip5 _ _ 1 2 j v 1 3 32 _ _ _ (.inr (.inl (by decide)))).trans ?_
  refine (skip5 _ _ 1 2 j v 1 3 0 _ _ _ (.inr (.inl (by decide)))).trans ?_
  refine (hit5 _ _ 1 2 j v 32 _ _ _ ⟨j.val % 32, by omega⟩ (by show j.val = 32 + j.val % 32; omega)).trans ?_
  refine (pay1_e _ _ v).trans ?_
  exact rd4h w f 1 2 192 _ _ v (lane 2 j) (by show 128 * (j.val / 32) + 32 * 2 + j.val % 32 = 192 + j.val % 32; omega)

theorem stores8_130 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 0) :
    w8.read (Elt Ideal) (w8.writes (Elt Ideal) f8 (stores8 w f)) (ix5 0 1 3 j v) = w.read (Elt Ideal) f (ix4 1 3 (lane 3 j) v) := by
  unfold stores8
  refine (skip5 _ _ 1 3 j v 1 3 32 _ _ _ (.inr (.inr (by omega)))).trans ?_
  refine (hit5 _ _ 1 3 j v 0 _ _ _ ⟨j.val % 32, by omega⟩ (by show j.val = 0 + j.val % 32; omega)).trans ?_
  refine (pay2_e _ _ v).trans ?_
  exact rd4h w f 1 3 96 _ _ v (lane 3 j) (by show 128 * (j.val / 32) + 32 * 3 + j.val % 32 = 96 + j.val % 32; omega)

theorem stores8_131 (w8 : View sig .tc .vmem S1x2x4x64x128 .f32) (f8 : w8.ty.Contents (Elt Ideal)) (w : View sig .tc .vmem S2x4x256x128 .f32) (f : w.ty.Contents (Elt Ideal)) (j : Fin 64) (v : Fin 128) (hj : j.val / 32 = 1) :
    w8.read (Elt Ideal) (w8.writes (Elt Ideal) f8 (stores8 w f)) (ix5 0 1 3 j v) = w.read (Elt Ideal) f (ix4 1 3 (lane 3 j) v) := by
  unfold stores8
  refine (hit5 _ _ 1 3 j v 32 _ _ _ ⟨j.val % 32, by omega⟩ (by show j.val = 32 + j.val % 32; omega)).trans ?_
  refine (pay3_e _ _ v).trans ?_
  exact rd4h w f 1 3 224 _ _ v (lane 3 j) (by show 128 * (j.val / 32) + 32 * 3 + j.val % 32 = 224 + j.val % 32; omega)

/-- Every stored entry is the state's at its head's lane. -/
theorem stores8_at (w8 : View sig .tc .vmem S1x2x4x64x128 .f32) (f8 : w8.ty.Contents (Elt Ideal)) (w : View sig .tc .vmem S2x4x256x128 .f32) (f : w.ty.Contents (Elt Ideal)) (d : Fin 2) (h : Fin 4) (j : Fin 64) (v : Fin 128) :
    w8.read (Elt Ideal) (w8.writes (Elt Ideal) f8 (stores8 w f)) (ix5 0 d h j v) = w.read (Elt Ideal) f (ix4 d h (lane h j) v) := by
  have hj : j.val / 32 = 0 ∨ j.val / 32 = 1 := by omega
  match d, h with
  | ⟨0, _⟩, ⟨0, _⟩ => exact hj.elim (stores8_000 w8 f8 w f j v) (stores8_001 w8 f8 w f j v)
  | ⟨0, _⟩, ⟨1, _⟩ => exact hj.elim (stores8_010 w8 f8 w f j v) (stores8_011 w8 f8 w f j v)
  | ⟨0, _⟩, ⟨2, _⟩ => exact hj.elim (stores8_020 w8 f8 w f j v) (stores8_021 w8 f8 w f j v)
  | ⟨0, _⟩, ⟨3, _⟩ => exact hj.elim (stores8_030 w8 f8 w f j v) (stores8_031 w8 f8 w f j v)
  | ⟨1, _⟩, ⟨0, _⟩ => exact hj.elim (stores8_100 w8 f8 w f j v) (stores8_101 w8 f8 w f j v)
  | ⟨1, _⟩, ⟨1, _⟩ => exact hj.elim (stores8_110 w8 f8 w f j v) (stores8_111 w8 f8 w f j v)
  | ⟨1, _⟩, ⟨2, _⟩ => exact hj.elim (stores8_120 w8 f8 w f j v) (stores8_121 w8 f8 w f j v)
  | ⟨1, _⟩, ⟨3, _⟩ => exact hj.elim (stores8_130 w8 f8 w f j v) (stores8_131 w8 f8 w f j v)

theorem lane_mod (h : Fin 4) (j : Fin 64) : (lane h j).val % 128 / 32 = h.val := by
  show (128 * (j.val / 32) + 32 * h.val + j.val % 32) % 128 / 32 = h.val
  omega

end Cert.KernelIdeal.Hand

end
-- ==== Proof.RetTab.lean ====
/- The table of states after both loops. -/
module

public import proofs.«01_k».proof.Proof.Gen.KernelIdeal.Loops
public import proofs.«01_k».proof.Proof.Gen.KernelIdeal.Frame
public import proofs.«01_k».proof.Proof.RetOut
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem fstep_congr (x : Vec Ideal S256x1536 .bf16) (g g' : Vec Ideal S1x256 .f32) (a : Vec Ideal S2x4x128 .f32) (n : ℕ) (hn : n < 2) (h : Fin 4) (l : Fin 256) (v : Fin 128) (s s' : EReal)
    (hg : g (ix2 0 l) = g' (ix2 0 l)) (hs : s = s') : fstep x g a n hn h l v s = fstep x g' a n hn h l v s' := by
  subst hs
  unfold fstep
  rw [hg]

theorem bstep_congr (x : Vec Ideal S256x1536 .bf16) (K K' : Vec Ideal S256x512 .f32) (g g' : Vec Ideal S1x256 .f32) (a : Vec Ideal S2x4x128 .f32) (n : ℕ) (hn : n < 2) (h : Fin 4) (l : Fin 256) (v : Fin 128) (s s' : EReal)
    (hK : ∀ r, K (ix2 (crow n hn r) ⟨256 + l.val, by omega⟩) = K' (ix2 (crow n hn r) ⟨256 + l.val, by omega⟩)) (hg : g (ix2 0 l) = g' (ix2 0 l)) (hs : s = s') :
    bstep x K g a n hn h l v s = bstep x K' g' a n hn h l v s' := by
  subst hs
  unfold bstep
  rw [hg]
  simp only [hK]

/-- A load of one direction's logits, at a lane. -/
theorem rdg (w : View sig .tc .vmem S2x256 .f32) (f : w.ty.Contents (Elt Ideal)) (d : Fin 2)
    (inb : ∀ a, (![d.val, 0] : Fin 2 → ℕ) a + (![1, 256] : Fin 2 → ℕ) a ≤ S2x256.size a) (l : Fin 256) :
    w.readAt (Elt Ideal) (Rect.unit (s := S2x256) ![d.val, 0] ![1, 256] inb).toLoadRect f (ix2 0 l) = w.read (Elt Ideal) f (ix2 d l) := by
  refine congrArg (w.read (Elt Ideal) f) (funext fun a => Fin.ext ?_)
  match a with
  | ⟨0, _⟩ => show d.val + 1 * 0 = d.val; omega
  | ⟨1, _⟩ => show 0 + 1 * l.val = l.val; omega

/-- The table of states the two loops leave, at a head's own lane: the final states. -/
theorem tab_at (𝒱 : Variants) (c : Dev nD) (bd : Option 𝒱.V) (i : grid0.Coords)
  (arg1 : Memref sig .tc .vmem S256x1536 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S2x256 .f32) (harg4 : arg4.IsWhole) (arg5 : Memref sig .tc .vmem S2x4x128 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x2x4x64x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S2x4x256x128 .f32) (harg11 : arg11.IsWhole) (arg12 : Memref sig .tc .vmem S4x128x128 .f32) (harg12 : arg12.IsWhole)
  (X1 : BufTy.Contents (Elt Ideal) arg1.view.ty) (X5 : BufTy.Contents (Elt Ideal) arg5.view.ty)
  (X12 : BufTy.Contents (Elt Ideal) arg12.view.ty)
  (G9 : BufTy.Contents (Elt Ideal) arg9.view.ty) (G10 : BufTy.Contents (Elt Ideal) arg10.view.ty)
  (v132 v134 : Vec Ideal S1x256 .f32) (L : List (View.Piece (Elt Ideal) S2x4x256x128 .f32))
  (hz : ∀ ix, arg11.view.read (Elt Ideal) (arg11.view.writes (Elt Ideal) arg11.view.junk L) ix = Ideal.ofBits .f32 0x00000000#32)
  (x0 : Vec Ideal S256x1536 .bf16) (x3 : Vec Ideal S2x256 .f32) (x4 : Vec Ideal S2x4x128 .f32)
  (h1 : arg1.view.read (Elt Ideal) X1 = x0) (h5 : arg5.view.read (Elt Ideal) X5 = x4)
  (hg0 : ∀ l : Fin 256, v132 (ix2 0 l) = x3 (ix2 0 l)) (hg1 : ∀ l : Fin 256, v134 (ix2 0 l) = x3 (ix2 1 l))
  (d : Fin 2) (h : Fin 4) (j : Fin 64) (v : Fin 128) :
    arg11.view.read (Elt Ideal) (arg11.view.writes (Elt Ideal) (arg11.view.writes (Elt Ideal) arg11.view.junk ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 (arg11.view.writes (Elt Ideal) arg11.view.junk L) k0_t1_loop.trips).2.2 ++ L))
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v134 X1 X5 (arg9.view.writes (Elt Ideal) G9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 (arg11.view.writes (Elt Ideal) arg11.view.junk L) k0_t1_loop.trips).1) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 (arg11.view.writes (Elt Ideal) arg11.view.junk L) k0_t1_loop.trips).2.1) (arg11.view.writes (Elt Ideal) arg11.view.junk ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 (arg11.view.writes (Elt Ideal) arg11.view.junk L) k0_t1_loop.trips).2.2 ++ L)) k0_t2_loop.trips).2) (ix4 d h (lane h j) v)
      = st8 x0 x3 x4 (ix5 0 d h j v) := by
  match d with
  | ⟨0, _⟩ =>
    refine (loop2_other _ _ _ _ arg1 harg1 arg2 harg2 arg3 harg3 arg4 harg4 arg5 harg5 arg6 harg6 arg7 harg7 arg8 harg8 arg9 harg9 arg10 harg10 arg11 harg11 arg12 harg12 _ _ _ _ _ _ h (lane h j) v).trans ?_
    rw [View.writes_append]
    refine (loop1_own _ _ _ _ arg1 harg1 arg2 harg2 arg3 harg3 arg4 harg4 arg5 harg5 arg6 harg6 arg7 harg7 arg8 harg8 arg9 harg9 arg10 harg10 arg11 harg11 arg12 harg12 _ _ _ _ _ _ _ h (lane h j) v (lane_mod h j)).trans ?_
    rw [hz, h1, h5]
    unfold st8
    refine Eq.trans ?_ (if_pos rfl).symm
    exact fstep_congr _ _ _ _ 1 _ h (lane h j) v _ _ (hg0 _) (fstep_congr _ _ _ _ 0 _ h (lane h j) v _ _ (hg0 _) rfl)
  | ⟨1, _⟩ =>
    have hk : ∀ (n : ℕ) (hn : n < 2) (r : Fin 128), arg9.view.read (Elt Ideal) (arg9.view.writes (Elt Ideal) G9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay78 32#32 k0_pay79 k0_pay80 0#32 v132 X1 X5 X12 G9 G10 (arg11.view.writes (Elt Ideal) arg11.view.junk L) k0_t1_loop.trips).1) (ix2 (crow n hn r) ⟨256 + (lane h j).val, by omega⟩)
        = x0 (ix2 (crow n hn r) ⟨256 + (lane h j).val, by omega⟩) := fun n hn r => by
      refine (loop1_key _ _ _ _ arg1 harg1 arg2 harg2 arg3 harg3 arg4 harg4 arg5 harg5 arg6 harg6 arg7 harg7 arg8 harg8 arg9 harg9 arg10 harg10 arg11 harg11 arg12 harg12 _ _ _ _ _ _ _ n hn r (lane h j)).trans ?_
      rw [h1]
    refine (loop2_own _ _ _ _ arg1 harg1 arg2 harg2 arg3 harg3 arg4 harg4 arg5 harg5 arg6 harg6 arg7 harg7 arg8 harg8 arg9 harg9 arg10 harg10 arg11 harg11 arg12 harg12 _ _ _ _ _ _ h (lane h j) v (lane_mod h j)).trans ?_
    rw [View.writes_append]
    rw [h1, h5]
    unfold st8
    refine Eq.trans ?_ (if_neg (show ¬ (1 : ℕ) = 0 by omega)).symm
    refine bstep_congr _ _ _ _ _ _ 0 _ h (lane h j) v _ _ (fun r => hk 0 _ r) (hg1 _) (bstep_congr _ _ _ _ _ _ 1 _ h (lane h j) v _ _ (fun r => hk 1 _ r) (hg1 _) ?_)
    exact (loop1_other _ _ _ _ arg1 harg1 arg2 harg2 arg3 harg3 arg4 harg4 arg5 harg5 arg6 harg6 arg7 harg7 arg8 harg8 arg9 harg9 arg10 harg10 arg11 harg11 arg12 harg12 _ _ _ _ _ _ _ h (lane h j) v).trans (hz _)

end Cert.KernelIdeal.Hand

end
-- ==== Proof.RetRun.lean ====
/- The value the retention kernel's body leaves in the buffer of the final states. -/
module

public import proofs.«01_k».proof.Proof.Gen.KernelIdeal.Loops
public import proofs.«01_k».proof.Proof.Gen.KernelIdeal.Frame
public import Idealize.ShloMosaic.Lib.Claim
public import proofs.«01_k».proof.Proof.KernelIdealFrame
public import proofs.«01_k».proof.Proof.RetTab

@[expose] public section

set_option maxRecDepth 16384

noncomputable section

namespace Cert.KernelIdeal.Ret

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple: the inputs' buffers are left as they were; the outputs' and the scratch end at some contents. -/
theorem body_val (c : Dev nD) (i : grid0.Coords) (arg1 : Memref sig .tc .vmem S256x1536 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S2x256 .f32) (harg4 : arg4.IsWhole) (arg5 : Memref sig .tc .vmem S2x4x128 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S1x2x4x64x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S2x4x256x128 .f32) (harg11 : arg11.IsWhole) (arg12 : Memref sig .tc .vmem S4x128x128 .f32) (harg12 : arg12.IsWhole)
    (x0 : Vec Ideal S256x1536 .bf16) (x1 : Vec Ideal S8x128 .f32) (x2 : Vec Ideal S8x128 .f32) (x3 : Vec Ideal S2x256 .f32) (x4 : Vec Ideal S2x4x128 .f32) (x5 : Vec Ideal S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (st8 x0 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp Idealize.ShloMosaic.frame (wpE (defs₀ (F := Ideal)) Variants.none c none) E (cc0_retention i arg1 harg1 arg2 harg2 arg3 harg3 arg4 harg4 arg5 harg5 arg6 harg6 arg7 harg7 arg8 harg8 arg9 harg9 arg10 harg10 arg11 harg11 arg12 harg12) K := by
    intro E K
    simp only [cc0_retention_eq_skeleton]; unfold cc0_retention_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _; isplitr; swap; · iexact H7
      ipureintro
      funext ix
      rw [eq_ix5 ix]
      obtain ⟨z, d, h, j, v, hx⟩ : ∃ (z : Fin 1) (d : Fin 2) (h : Fin 4) (j : Fin 64) (v : Fin 128), ix = ix5 z d h j v := ⟨_, _, _, _, _, eq_ix5 ix⟩
      rw [← eq_ix5 ix, hx, show z = 0 from Subsingleton.elim _ _]
      clear hx
      refine (stores8_at arg8.view _ arg11.view _ d h j v).trans ?_
      rw [View.writes_append]
      refine tab_at _ _ _ _ arg1 harg1 arg2 harg2 arg3 harg3 arg4 harg4 arg5 harg5 arg6 harg6 arg7 harg7 arg8 harg8 arg9 harg9 arg10 harg10 arg11 harg11 arg12 harg12 _ _ _ _ _ _ _ _ ?_ x0 x3 x4 hf0 hf4 ?_ ?_ d h j v
      · intro iy
        unfold body_val.sl.HS2_1
        refine (View.read_writes_cons_unit_of_mem arg11.view _ _ _ _ _ iy rfl fun a => ?_).trans ?_
        · match a with
          | ⟨0, _⟩ => exact (Nat.zero_add _).symm
          | ⟨1, _⟩ => exact (Nat.zero_add _).symm
          | ⟨2, _⟩ => exact (Nat.zero_add _).symm
          | ⟨3, _⟩ => exact (Nat.zero_add _).symm
        · pointwise [k0_pay77]
      · exact fun l => (rdg arg4.view _ 0 _ l).trans (congrFun hf3 _)
      · exact fun l => (rdg arg4.view _ 1 _ l).trans (congrFun hf3 _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The window of the outputs proper: this certificate says nothing of what it holds. -/
def forgets0 : Fin 8 → Bool := fun w => w.val == 6

/-- The proof data of the region on core `c`: the arrays as the region finds them; each input's buffer holds its block after
    the body, the final states' buffer those of the block, and nothing is said of the other output's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => st8 (iblk m c 0 t) (iblk m c 3 t) (iblk m c 4 t)
  Φ _ := Pipeline.ΦA spec0 c
  q w := Pipeline.shareOf spec0 w
  owed _ := 0

/-- The arrays of the proof data are what the region finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_7 (c : Dev nD) (t : Fin cfg0.N) : (dats m 0 c).after 7 t = st8 (iblk m c 0 t) (iblk m c 3 t) (iblk m c 4 t) := by dsimp only [dats]
theorem after0_5 (c : Dev nD) (t : Fin cfg0.N) : (dats m 0 c).after 5 t = iblk m c 5 t := by dsimp only [dats]

/-- Each input's buffer holds its block when the body is entered. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ owns (c : Thread nD τ) (ms0_7 t) fullShare ((dats m 0 c).after 7 t))

set_option maxHeartbeats 1200000 in
/-- The body at any point: the inputs' buffers hold their blocks, so the body's triple applies. -/
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_7]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_val c (grid0.coords t) _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row is the body. -/
theorem defs₀_row (t : Fin cfg0.N) :
    defs₀ (F := Ideal) .tc cfg0.body (cfg0.bodyArgs t (cfg0.slots t)) = bodyAt0 t := by
  unfold defs₀; rw [Defs.onTc_tc]

/-- The obligation of the body at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends, with the inputs' arrays as the region found them and every semaphore at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The array of the final states after the run. -/
theorem run_st : θ_run defs (onTc (τ := τ) (main (F := Ideal))) (s₀ m ρ) (fun r => ∀ c : Dev nD,
      r.2.mem ((spec0 7).arr.view.loc (c.tc : Thread nD τ)) = (dats m 0 c).arrAt 7 (cfgs 0).N) :=
  (θ_run defs _ _).mono (fun _ h c => ((dats m 0 c).toRForget_arrAt_iff (fgt := forgets0) (w := 7) rfl _ _).mp ((h c).1 7)) (run_main m ρ)

end Cert.KernelIdeal.Ret

end
-- ==== Proof.RetHost.lean ====
/- What the retention's host operations leave in the kernel's operands. -/
module

public import proofs.«01_k».proof.Proof.RetRun
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Ret

open Cert.KernelIdeal Cert.KernelIdeal.Gen Idealize.ShloMosaic Idealize.ShloMosaic.TcCoe Idealize.SL.Sem
open scoped BigOperators

/-- A projection's lanes in the kernel's order: the halves of every head, one after the other. -/
def hlv (x : FVec Ideal S16384x256 .f32) : FVec Ideal S16384x256 .f32 :=
  shapeCast _ (transpose S16384x2x4x32 [0, 2, 1, 3] (shapeCast _ x shapeCasts_S16384x256_S16384x4x2x32) transposes_S16384x4x2x32_S16384x2x4x32_0_2_1_3) shapeCasts_S16384x2x4x32_S16384x256

/-- The keys, scaled. -/
def ksc (X : FVec Ideal S16384x1536 .f32) : FVec Ideal S16384x256 .f32 :=
  mulf (hlv (extractStridedSlice S16384x256 ![0, 256] X slices_S16384x1536_S16384x256_0_256)) (broadcastInDim S16384x256 ![] bcast_S_S16384x256 (constant S_ .f32 0x3E000000#32))

/-- The kernel's first operand. -/
def xq (X : FVec Ideal S16384x1536 .f32) : FVec Ideal S16384x1536 .bf16 :=
  truncf .bf16 (concatenate S16384x1536 1 [⟨S16384x256, hlv (extractStridedSlice S16384x256 ![0, 0] X slices_S16384x1536_S16384x256_0_0)⟩, ⟨S16384x256, ksc X⟩,
    ⟨S16384x512, extractStridedSlice S16384x512 ![0, 512] X slices_S16384x1536_S16384x512_0_512⟩, ⟨S16384x512, extractStridedSlice S16384x512 ![0, 1024] X slices_S16384x1536_S16384x512_0_1024⟩] concatenates_S16384x256_S16384x256_S16384x512_S16384x512_S16384x1536_d1) bitsLt_bf16_f32

/-- The logarithm of the logistic function, entry by entry. -/
def lsg (A : FVec Ideal S2x4 .f32) : FVec Ideal S2x4 .f32 :=
  Host.negf (select (cmpf .une (subf (Host.negf A) (broadcastInDim S2x4 ![] bcast_S_S2x4 (constant S_ .f32 0x00000000#32))) (subf (Host.negf A) (broadcastInDim S2x4 ![] bcast_S_S2x4 (constant S_ .f32 0x00000000#32)))) (addf (Host.negf A) (broadcastInDim S2x4 ![] bcast_S_S2x4 (constant S_ .f32 0x00000000#32))) (addf (maximumf (Host.negf A) (broadcastInDim S2x4 ![] bcast_S_S2x4 (constant S_ .f32 0x00000000#32))) (Host.log1p (Host.exp (Host.negf (Host.absf (subf (Host.negf A) (broadcastInDim S2x4 ![] bcast_S_S2x4 (constant S_ .f32 0x00000000#32)))))))))

/-- The head of every lane. -/
def hd : IVec S256x1 32 :=
  broadcastInDim S256x1 ![0] bcast_S256_S256x1_0 (select (constantI S256 1 0#1) (addi (fun i => lit0 (S256.rowMajor i)) (broadcastInDim S256 ![] bcast_S_S256 (constantI S_ 32 4#32))) (fun i => lit0 (S256.rowMajor i)))

variable (m : (ℓ : Loc nD τ sig) → Buf (Elt Ideal) ℓ)

set_option maxHeartbeats 4000000 in
theorem V_13 (c : Dev nD) : V (F := Ideal) m c main_v13 = xq (m ((c.tc : Thread nD τ).loc main_arg0)) := by
  unfold V
  simp only [List.flatten_cons, List.flatten_nil, List.cons_append, List.nil_append]
  after_reads_simp [hostOps0, hostOps0_1, hostOps0_2]
  rfl

set_option maxHeartbeats 4000000 in
theorem V_19 (c : Dev nD) : V (F := Ideal) m c main_v19 = Host.gather gather_S2x4_S256x1_S2x256_0_1_n_n_1_1_21 (lsg (m ((c.tc : Thread nD τ).loc main_arg1))) hd := by
  unfold V
  simp only [List.flatten_cons, List.flatten_nil, List.cons_append, List.nil_append]
  after_reads_simp [hostOps0, hostOps0_1, hostOps0_2]
  rfl

set_option maxHeartbeats 4000000 in
theorem V_21 (c : Dev nD) : V (F := Ideal) m c main_v21 = broadcastInDim S2x4x128 ![0, 1, 2] bcast_S2x4x1_S2x4x128_0_1_2 (broadcastInDim S2x4x1 ![0, 1] bcast_S2x4_S2x4x1_0_1 (lsg (m ((c.tc : Thread nD τ).loc main_arg1)))) := by
  unfold V
  simp only [List.flatten_cons, List.flatten_nil, List.cons_append, List.nil_append]
  after_reads_simp [hostOps0, hostOps0_1, hostOps0_2]
  rfl

theorem idx : ∀ t : Fin cfg0.N, win0_0.index t = ![t.val, 0] ∧ win0_3.index t = ![0, 0] ∧ win0_4.index t = ![0, 0, 0]
    ∧ win0_7.index t = ![t.val, 0, 0, 0, 0] :=
  (by decide +kernel : ∀ t : Fin grid0.N, _)

theorem hlv_at (x : FVec Ideal S16384x256 .f32) (R : Fin 16384) (h : Fin 4) (j : Fin 64) :
    hlv x (ix2 R (Hand.lane h j)) = x (ix2 R ⟨64 * h.val + j.val, by omega⟩) := by
  have hh := h.isLt
  have hj := j.isLt
  pointwise [hlv]
  simp only [Hand.lane]
  congr 2
  apply Fin.ext
  simp only
  omega

theorem xq_ksc (X : FVec Ideal S16384x1536 .f32) (R : Fin 16384) (l : Fin 256) :
    xq X (ix2 R ⟨256 + l.val, by omega⟩) = ksc X (ix2 R l) := by
  have hl := l.isLt
  pointwise [xq]

theorem xq_k (X : FVec Ideal S16384x1536 .f32) (R : Fin 16384) (h : Fin 4) (j : Fin 64) :
    xq X (ix2 R ⟨256 + (Hand.lane h j).val, by have := (Hand.lane h j).isLt; omega⟩) = X (ix2 R ⟨256 + (64 * h.val + j.val), by omega⟩) * Ideal.ofBits .f32 0x3E000000#32 := by
  rw [xq_ksc]
  show hlv _ _ * _ = _
  rw [hlv_at]
  pointwise []

theorem xq_v (X : FVec Ideal S16384x1536 .f32) (R : Fin 16384) (h : Fin 4) (v : Fin 128) :
    xq X (ix2 R ⟨512 + 128 * h.val + v.val, by omega⟩) = X (ix2 R ⟨512 + (128 * h.val + v.val), by omega⟩) := by
  pointwise [xq]
  have hh := h.isLt
  rw [dif_neg (by omega), dif_neg (by omega), dif_pos (by omega)]
  exact congrArg (fun y => X (ix2 R y)) (Fin.ext (by simp only; omega))

theorem ga_at (L : FVec Ideal S2x4 .f32) (d : Fin 2) (l : Fin 256) :
    Host.gather gather_S2x4_S256x1_S2x256_0_1_n_n_1_1_21 L hd (ix2 d l) = L (ix2 d ⟨l.val % 128 / 32, by omega⟩) := by
  unfold Host.gather
  refine congrArg L (funext fun a => Fin.ext ?_)
  exact (by decide +kernel : ∀ (d : Fin 2) (l : Fin 256) (a : Fin 2), ((gather_S2x4_S256x1_S2x256_0_1_n_n_1_1_21).operandIdx (ix2 d l) hd a).val = ((ix2 d (⟨l.val % 128 / 32, by omega⟩ : Fin 4) : S2x4.Idx) a).val) d l a

theorem blk_0 (c : Dev nD) (t : Fin cfg0.N) (r : Fin 256) (C : Fin 1536) :
    iblk m c 0 t (ix2 r C) = xq (m ((c.tc : Thread nD τ).loc main_arg0)) (ix2 ⟨t.val * 256 + r.val, by have : t.val < 32 := t.isLt; omega⟩ C) := by
  have hr := r.isLt
  rw [← V_13]
  blk_point [iblk, idx t]

theorem blk_3 (c : Dev nD) (t : Fin cfg0.N) (d : Fin 2) (l : Fin 256) :
    iblk m c 3 t (ix2 d l) = lsg (m ((c.tc : Thread nD τ).loc main_arg1)) (ix2 d ⟨l.val % 128 / 32, by omega⟩) := by
  rw [← ga_at (lsg (m ((c.tc : Thread nD τ).loc main_arg1))) d l, ← V_19]
  blk_point [iblk, idx t]

theorem blk_4 (c : Dev nD) (t : Fin cfg0.N) (d : Fin 2) (h : Fin 4) (v : Fin 128) :
    iblk m c 4 t (ix3 d h v) = lsg (m ((c.tc : Thread nD τ).loc main_arg1)) (ix2 d h) := by
  have e : V (F := Ideal) m c main_v21 (ix3 d h v) = lsg (m ((c.tc : Thread nD τ).loc main_arg1)) (ix2 d h) := by
    rw [V_21]
    pointwise []
  rw [← e]
  blk_point [iblk, idx t]

end Cert.KernelIdeal.Ret

end
-- ==== Proof.RetRef.lean ====
/- The retention reference's final states, read at an index. -/
module

public import proofs.«01_k».proof.Proof.Gen.ReferenceIdeal
public import proofs.«01_k».proof.Proof.Gen.ReferenceIdeal.Run
public import Idealize.ShloMosaic.Lib.Pointwise
public import Idealize.ShloMosaic.PureOps.Ideal

@[expose] public section

set_option maxRecDepth 16384

noncomputable section

namespace Cert.ReferenceIdeal.Ret

open Cert.ReferenceIdeal Cert.ReferenceIdeal.Gen Idealize.ShloMosaic Idealize.ShloMosaic.TcCoe Idealize.SL.Sem
open scoped BigOperators

/-- The scaled keys, by sequence, head, token and lane. -/
def kx (X : FVec Ideal S16384x1536 .f32) : FVec Ideal S32x4x256x64 .f32 :=
  transpose S32x4x256x64 [0, 2, 1, 3] (mulf (shapeCast _ (extractStridedSlice S32x256x256 ![0, 0, 256] (shapeCast _ (extractStridedSlice S8192x1536 ![0, 0] X slices_S16384x1536_S8192x1536_0_0) shapeCasts_S8192x1536_S32x256x1536) slices_S32x256x1536_S32x256x256_0_0_256) shapeCasts_S32x256x256_S32x256x4x64) (broadcastInDim S32x256x4x64 ![] bcast_S_S32x256x4x64 (constant S_ .f32 0x3E000000#32))) transposes_S32x256x4x64_S32x4x256x64_0_2_1_3

/-- The values, by sequence, head, token and lane. -/
def vx (X : FVec Ideal S16384x1536 .f32) : FVec Ideal S32x4x256x128 .f32 :=
  transpose S32x4x256x128 [0, 2, 1, 3] (shapeCast _ (extractStridedSlice S32x256x512 ![0, 0, 512] (shapeCast _ (extractStridedSlice S8192x1536 ![0, 0] X slices_S16384x1536_S8192x1536_0_0) shapeCasts_S8192x1536_S32x256x1536) slices_S32x256x1536_S32x256x512_0_0_512) shapeCasts_S32x256x512_S32x256x4x128) transposes_S32x256x4x128_S32x4x256x128_0_2_1_3

/-- The logarithm of the logistic function, entry by entry. -/
def lsg (A : FVec Ideal S2x4 .f32) : FVec Ideal S2x4 .f32 :=
  Host.negf (select (cmpf .une (subf (Host.negf A) (broadcastInDim S2x4 ![] bcast_S_S2x4 (constant S_ .f32 0x00000000#32))) (subf (Host.negf A) (broadcastInDim S2x4 ![] bcast_S_S2x4 (constant S_ .f32 0x00000000#32)))) (addf (Host.negf A) (broadcastInDim S2x4 ![] bcast_S_S2x4 (constant S_ .f32 0x00000000#32))) (addf (maximumf (Host.negf A) (broadcastInDim S2x4 ![] bcast_S_S2x4 (constant S_ .f32 0x00000000#32))) (Host.log1p (Host.exp (Host.negf (Host.absf (subf (Host.negf A) (broadcastInDim S2x4 ![] bcast_S_S2x4 (constant S_ .f32 0x00000000#32)))))))))

/-- The log decays of every direction, sequence, head and token. -/
def gl (L : FVec Ideal S2x4 .f32) : FVec Ideal S2x32x4x256x1 .f32 :=
  broadcastInDim S2x32x4x256x1 ![0, 1, 2, 3, 4] bcast_S2x1x4x1x1_S2x32x4x256x1_0_1_2_3_4 (broadcastInDim S2x1x4x1x1 ![0, 2] bcast_S2x4_S2x1x4x1x1_0_2 L)

/-- The forward direction's log decays. -/
def gf (L : FVec Ideal S2x4 .f32) : FVec Ideal S32x4x256x1 .f32 :=
  shapeCast _ (extractStridedSlice S1x32x4x256x1 ![0, 0, 0, 0, 0] (gl L) slices_S2x32x4x256x1_S1x32x4x256x1_0_0_0_0_0) shapeCasts_S1x32x4x256x1_S32x4x256x1

/-- The backward direction's log decays. -/
def gb (L : FVec Ideal S2x4 .f32) : FVec Ideal S32x4x256x1 .f32 :=
  shapeCast _ (extractStridedSlice S1x32x4x256x1 ![1, 0, 0, 0, 0] (gl L) slices_S2x32x4x256x1_S1x32x4x256x1_1_0_0_0_0) shapeCasts_S1x32x4x256x1_S32x4x256x1

/-- The running sums of log decays inside each chunk. -/
def cum (g : FVec Ideal S32x4x256x1 .f32) : FVec Ideal S32x4x2x128x1 .f32 :=
  Host.reduceWindowAdd ![1, 1, 1, 128, 1] ![1, 1, 1, 1, 1] ![0, 0, 0, 127, 0] ![0, 0, 0, 0, 0] (shapeCast _ g shapeCasts_S32x4x256x1_S32x4x2x128x1) (broadcastInDim S_ ![] bcast_S_S_ (constant S_ .f32 0x00000000#32)) reduceWindows_S32x4x2x128x1_S32x4x2x128x1_w1s1p0_0_w1s1p0_0_w1s1p0_0_w128s1p127_0_w1s1p0_0 h_S_

/-- The whole chunk's log decay. -/
def tot (u : FVec Ideal S32x4x2x128x1 .f32) : FVec Ideal S32x4x2x1x1 .f32 :=
  extractStridedSlice S32x4x2x1x1 ![0, 0, 0, 127, 0] u slices_S32x4x2x128x1_S32x4x2x1x1_0_0_0_127_0

/-- Each chunk's decayed sum of outer products. -/
def kv (k : FVec Ideal S32x4x256x64 .f32) (v : FVec Ideal S32x4x256x128 .f32) (u : FVec Ideal S32x4x2x128x1 .f32) : FVec Ideal S32x4x2x64x128 .f32 :=
  Host.dotGeneral dot_S32x4x2x128x64_S32x4x2x128x128_S32x4x2x64x128_3_3_4_4_012_012 none (mulf (shapeCast _ k shapeCasts_S32x4x256x64_S32x4x2x128x64) (broadcastInDim S32x4x2x128x64 ![0, 1, 2, 3, 4] bcast_S32x4x2x128x1_S32x4x2x128x64_0_1_2_3_4 (Host.exp (subf (broadcastInDim S32x4x2x128x1 ![0, 1, 2, 3, 4] bcast_S32x4x2x1x1_S32x4x2x128x1_0_1_2_3_4 (tot u)) u)))) (shapeCast _ v shapeCasts_S32x4x256x128_S32x4x2x128x128)

/-- Each chunk's decay. -/
def ea (u : FVec Ideal S32x4x2x128x1 .f32) : FVec Ideal S32x4x2x1 .f32 :=
  Host.exp (shapeCast _ (tot u) shapeCasts_S32x4x2x1x1_S32x4x2x1)

/-- The state after both chunks. -/
def st (w : FVec Ideal S32x4x2x64x128 .f32) (e : FVec Ideal S32x4x2x1 .f32) : FVec Ideal S32x4x64x128 .f32 :=
  addf (mulf (broadcastInDim S32x4x64x128 ![0, 1, 2, 3] bcast_S32x4x1x1_S32x4x64x128_0_1_2_3 (broadcastInDim S32x4x1x1 ![0, 1, 2] bcast_S32x4x1_S32x4x1x1_0_1_2 (shapeCast _ (extractStridedSlice S32x4x1x1 ![0, 0, 1, 0] e slices_S32x4x2x1_S32x4x1x1_0_0_1_0) shapeCasts_S32x4x1x1_S32x4x1))) (addf (mulf (broadcastInDim S32x4x64x128 ![0, 1, 2, 3] bcast_S32x4x1x1_S32x4x64x128_0_1_2_3 (broadcastInDim S32x4x1x1 ![0, 1, 2] bcast_S32x4x1_S32x4x1x1_0_1_2 (shapeCast _ (extractStridedSlice S32x4x1x1 ![0, 0, 0, 0] e slices_S32x4x2x1_S32x4x1x1_0_0_0_0) shapeCasts_S32x4x1x1_S32x4x1))) (broadcastInDim S32x4x64x128 ![] bcast_S_S32x4x64x128 (constant S_ .f32 0x00000000#32))) (shapeCast _ (extractStridedSlice S32x4x1x64x128 ![0, 0, 0, 0, 0] w slices_S32x4x2x64x128_S32x4x1x64x128_0_0_0_0_0) shapeCasts_S32x4x1x64x128_S32x4x64x128))) (shapeCast _ (extractStridedSlice S32x4x1x64x128 ![0, 0, 1, 0, 0] w slices_S32x4x2x64x128_S32x4x1x64x128_0_0_1_0_0) shapeCasts_S32x4x1x64x128_S32x4x64x128)

/-- The final states of a direction, from its keys, values and log decays. -/
def sta (k : FVec Ideal S32x4x256x64 .f32) (v : FVec Ideal S32x4x256x128 .f32) (g : FVec Ideal S32x4x256x1 .f32) : FVec Ideal S32x4x64x128 .f32 :=
  st (kv k v (cum g)) (ea (cum g))

/-- Both directions' final states, one after the other. -/
def both (X : FVec Ideal S16384x1536 .f32) (A : FVec Ideal S2x4 .f32) : FVec Ideal S32x2x4x64x128 .f32 :=
  concatenate S32x2x4x64x128 1 [⟨S32x1x4x64x128, (broadcastInDim S32x1x4x64x128 ![0, 2, 3, 4] bcast_S32x4x64x128_S32x1x4x64x128_0_2_3_4 (sta (kx X) (vx X) (gf (lsg A))))⟩,
    ⟨S32x1x4x64x128, (broadcastInDim S32x1x4x64x128 ![0, 2, 3, 4] bcast_S32x4x64x128_S32x1x4x64x128_0_2_3_4 (sta (Host.reverse [2] (kx X)) (Host.reverse [2] (vx X)) (Host.reverse [2] (gb (lsg A)))))⟩] concatenates_S32x1x4x64x128_S32x1x4x64x128_S32x2x4x64x128_d1

set_option maxHeartbeats 4000000 in
/-- The reference's result is the two directions' final states. -/
theorem res_eq (m : (ℓ : Loc nD τ sig) → Buf (Elt Ideal) ℓ) (c : Dev nD) :
    Cert.ReferenceIdeal.Value.res_main_v84 (F := Ideal) m c = both (m ((c.tc : Thread nD τ).loc main_arg0)) (m ((c.tc : Thread nD τ).loc main_arg1)) := by
  unfold Cert.ReferenceIdeal.Value.res_main_v84
  rfl

theorem kx_at (X : FVec Ideal S16384x1536 .f32) (t : Fin 32) (h : Fin 4) (r : Fin 256) (j : Fin 64) :
    kx X (ix4 t h r j) = X (ix2 ⟨t.val * 256 + r.val, by omega⟩ ⟨256 + (h.val * 64 + j.val), by omega⟩) * Ideal.ofBits .f32 0x3E000000#32 := by
  pointwise [kx]

theorem vx_at (X : FVec Ideal S16384x1536 .f32) (t : Fin 32) (h : Fin 4) (r : Fin 256) (j : Fin 128) :
    vx X (ix4 t h r j) = X (ix2 ⟨t.val * 256 + r.val, by omega⟩ ⟨512 + (h.val * 128 + j.val), by omega⟩) := by
  pointwise [vx]

theorem gf_at (L : FVec Ideal S2x4 .f32) (t : Fin 32) (h : Fin 4) (r : Fin 256) :
    gf L (ix4 t h r 0) = L (ix2 0 h) := by
  pointwise [gf, gl]

theorem gb_at (L : FVec Ideal S2x4 .f32) (t : Fin 32) (h : Fin 4) (r : Fin 256) :
    gb L (ix4 t h r 0) = L (ix2 1 h) := by
  pointwise [gb, gl]

theorem st_at (w : FVec Ideal S32x4x2x64x128 .f32) (e : FVec Ideal S32x4x2x1 .f32) (t : Fin 32) (h : Fin 4) (j : Fin 64) (v : Fin 128) :
    st w e (ix4 t h j v) = e (ix4 t h 1 0) * (e (ix4 t h 0 0) * Ideal.ofBits .f32 0x00000000#32 + w (ix5 t h 0 j v)) + w (ix5 t h 1 j v) := by
  pointwise [st]

theorem ea_at (u : FVec Ideal S32x4x2x128x1 .f32) (t : Fin 32) (h : Fin 4) (n : Fin 2) :
    ea u (ix4 t h n 0) = Ideal.exp (u (ix5 t h n 127 0)) := by
  pointwise [ea, tot]

theorem kv_at (k : FVec Ideal S32x4x256x64 .f32) (w : FVec Ideal S32x4x256x128 .f32) (u : FVec Ideal S32x4x2x128x1 .f32)
    (t : Fin 32) (h : Fin 4) (n : Fin 2) (j : Fin 64) (v : Fin 128) :
    kv k w u (ix5 t h n j v) = ∑ r : Fin 128, (k (ix4 t h ⟨n.val * 128 + r.val, by omega⟩ j) * Ideal.exp (u (ix5 t h n 127 0) - u (ix5 t h n r 0)))
      * w (ix4 t h ⟨n.val * 128 + r.val, by omega⟩ v) := by
  pointwise [kv, tot]

theorem both_at (X : FVec Ideal S16384x1536 .f32) (A : FVec Ideal S2x4 .f32) (t : Fin 32) (d : Fin 2) (h : Fin 4) (j : Fin 64) (v : Fin 128) :
    both X A (ix5 t d h j v) = if d.val < 1 then sta (kx X) (vx X) (gf (lsg A)) (ix4 t h j v)
      else sta (Host.reverse [2] (kx X)) (Host.reverse [2] (vx X)) (Host.reverse [2] (gb (lsg A))) (ix4 t h j v) := by
  pointwise [both]
  split_ifs <;> rfl

/-- The positions of a window of 128 tokens. -/
theorem win_pos : ∀ n : Fin (⟨5, ![1, 1, 1, 128, 1]⟩ : Shape).numel, ∀ a : Fin 5,
    ((⟨5, ![1, 1, 1, 128, 1]⟩ : Shape).rowMajor.symm n a).val = if a = 3 then n.val else 0 := by
  decide +kernel

/-- A fold that adds a term at every position of a list. -/
theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running sum of a constant. -/
theorem run_const (γ : ℝ) (r : Fin 128) : (∑ n : Fin 128, if 127 ≤ r.val + n.val then (γ : EReal) else 0) = ((((r.val + 1 : ℕ) : ℝ) * γ : ℝ) : EReal) := by
  have e : ∀ n : Fin 128, (if 127 ≤ r.val + n.val then (γ : EReal) else 0) = ((if 127 ≤ r.val + n.val then γ else 0 : ℝ) : EReal) := fun n => by
    split_ifs <;> rfl
  have hc : ∀ r : Fin 128, (Finset.univ.filter fun n : Fin 128 => 127 ≤ r.val + n.val).card = r.val + 1 := by decide +kernel
  rw [Finset.sum_congr rfl fun n _ => e n, ← coe_sum, ← Finset.sum_filter, Finset.sum_const, hc, nsmul_eq_mul]

/-- A chunk's running sums when every token decays alike. -/
theorem cum_at (g : FVec Ideal S32x4x256x1 .f32) (γ : ℝ) (t : Fin 32) (h : Fin 4) (hg : ∀ r : Fin 256, g (ix4 t h r 0) = (γ : EReal)) (n : Fin 2) (r : Fin 128) :
    cum g (ix5 t h n r 0) = ((((r.val + 1 : ℕ) : ℝ) * γ : ℝ) : EReal) := by
  have hz : (broadcastInDim S_ ![] bcast_S_S_ (constant (F := Ideal) S_ .f32 0x00000000#32)) (Shape.Idx.first h_S_) = (0 : EReal) := by
    pointwise []
  have hx : ∀ (n : Fin 2) (r : Fin 128), shapeCast _ g shapeCasts_S32x4x256x1_S32x4x2x128x1 (ix5 t h n r 0) = (γ : EReal) := fun n r => by
    refine Eq.trans ?_ (hg ⟨n.val * 128 + r.val, by omega⟩)
    pointwise []
  rw [← run_const]
  unfold cum Host.reduceWindowAdd
  rw [Ideal.hostReduceWindowAdd_def, hz]
  generalize shapeCast _ g shapeCasts_S32x4x256x1_S32x4x2x128x1 = X at hx
  unfold Ideal.hostReduceWindowAdd Host.reduceWindow
  simp only []
  rw [foldl_sum, zero_add, ← Fin.sum_univ_def]
  refine Fintype.sum_equiv (finCongr (by decide +kernel : (⟨5, ![1, 1, 1, 128, 1]⟩ : Shape).numel = 128)) _ _ fun q => ?_
  have hw := win_pos q
  have hq : ((finCongr (by decide +kernel : (⟨5, ![1, 1, 1, 128, 1]⟩ : Shape).numel = 128)) q).val = q.val := rfl
  have hq' : q.val < 128 := lt_of_lt_of_eq q.isLt (by decide +kernel)
  have hr := r.isLt
  have w0 := hw 0
  have w1 := hw 1
  have w2 := hw 2
  have w3 := hw 3
  have w4 := hw 4
  simp only [Fin.reduceEq, if_true, if_false] at w0 w1 w2 w3 w4
  rw [hq]
  split
  · next hin =>
    have h3 := (hin 3).1
    have h3' : 127 ≤ r.val * 1 + ((⟨5, ![1, 1, 1, 128, 1]⟩ : Shape).rowMajor.symm q 3).val := h3
    rw [w3, Nat.mul_one] at h3'
    rw [if_pos h3']
    refine (congrArg X (funext fun a => Fin.ext ?_)).trans (hx n ⟨r.val + q.val - 127, by omega⟩)
    match a with
    | ⟨0, _⟩ =>
      show t.val * 1 + ((⟨5, ![1, 1, 1, 128, 1]⟩ : Shape).rowMajor.symm q 0).val - 0 = t.val
      rw [w0]; omega
    | ⟨1, _⟩ =>
      show h.val * 1 + ((⟨5, ![1, 1, 1, 128, 1]⟩ : Shape).rowMajor.symm q 1).val - 0 = h.val
      rw [w1]; omega
    | ⟨2, _⟩ =>
      show n.val * 1 + ((⟨5, ![1, 1, 1, 128, 1]⟩ : Shape).rowMajor.symm q 2).val - 0 = n.val
      rw [w2]; omega
    | ⟨3, _⟩ =>
      show r.val * 1 + ((⟨5, ![1, 1, 1, 128, 1]⟩ : Shape).rowMajor.symm q 3).val - 127 = r.val + q.val - 127
      rw [w3]; omega
    | ⟨4, _⟩ =>
      show 0 * 1 + ((⟨5, ![1, 1, 1, 128, 1]⟩ : Shape).rowMajor.symm q 4).val - 0 = 0
      rw [w4]
  · next hin =>
    rw [if_neg]
    intro h3
    refine hin fun a => ?_
    have ht := t.isLt
    have hh := h.isLt
    have hn := n.isLt
    match a with
    | ⟨0, _⟩ =>
      show 0 ≤ t.val * 1 + ((⟨5, ![1, 1, 1, 128, 1]⟩ : Shape).rowMajor.symm q 0).val ∧ t.val * 1 + ((⟨5, ![1, 1, 1, 128, 1]⟩ : Shape).rowMajor.symm q 0).val - 0 < 32
      rw [w0]; omega
    | ⟨1, _⟩ =>
      show 0 ≤ h.val * 1 + ((⟨5, ![1, 1, 1, 128, 1]⟩ : Shape).rowMajor.symm q 1).val ∧ h.val * 1 + ((⟨5, ![1, 1, 1, 128, 1]⟩ : Shape).rowMajor.symm q 1).val - 0 < 4
      rw [w1]; omega
    | ⟨2, _⟩ =>
      show 0 ≤ n.val * 1 + ((⟨5, ![1, 1, 1, 128, 1]⟩ : Shape).rowMajor.symm q 2).val ∧ n.val * 1 + ((⟨5, ![1, 1, 1, 128, 1]⟩ : Shape).rowMajor.symm q 2).val - 0 < 2
      rw [w2]; omega
    | ⟨3, _⟩ =>
      show 127 ≤ r.val * 1 + ((⟨5, ![1, 1, 1, 128, 1]⟩ : Shape).rowMajor.symm q 3).val ∧ r.val * 1 + ((⟨5, ![1, 1, 1, 128, 1]⟩ : Shape).rowMajor.symm q 3).val - 127 < 128
      rw [w3]; omega
    | ⟨4, _⟩ =>
      show 0 ≤ 0 * 1 + ((⟨5, ![1, 1, 1, 128, 1]⟩ : Shape).rowMajor.symm q 4).val ∧ 0 * 1 + ((⟨5, ![1, 1, 1, 128, 1]⟩ : Shape).rowMajor.symm q 4).val - 0 < 1
      rw [w4]; omega

end Cert.ReferenceIdeal.Ret

end
-- ==== Proof.RetEq.lean ====
/- The kernel's final states are the reference's. -/
module

public import proofs.«01_k».proof.Defs
public import proofs.«01_k».proof.Proof.RetHost
public import proofs.«01_k».proof.Proof.RetRef
public import proofs.«01_k».proof.Pre_finite_logits

@[expose] public section

set_option maxRecDepth 16384

noncomputable section

namespace Cert.KernelIdeal.Ret

open Cert.KernelIdeal Cert.KernelIdeal.Gen Idealize.ShloMosaic Idealize.ShloMosaic.TcCoe Idealize.SL.Sem
open scoped BigOperators

theorem c128 : Ideal.ofBits .f32 0x43000000#32 = ((128 : ℝ) : EReal) := by
  simp [Ideal.ofBits, Ideal.ieee]
  norm_cast
  norm_num

theorem c127 : Ideal.ofBits .f32 0x42FE0000#32 = ((127 : ℝ) : EReal) := by
  simp [Ideal.ofBits, Ideal.ieee]
  norm_cast
  norm_num

theorem lsg_eq (A : FVec Ideal S2x4 .f32) : Cert.ReferenceIdeal.Ret.lsg A = lsg A := rfl

/-- A finite logit's log decay is finite. -/
theorem lsg_real (A : FVec Ideal S2x4 .f32) (d : Fin 2) (h : Fin 4) (x : ℝ) (hx : A (ix2 d h) = (x : EReal)) : ∃ γ : ℝ, lsg A (ix2 d h) = (γ : EReal) := by
  pointwise [lsg]
  rw [hx]
  rw [if_neg (by simp)]
  have e1 : (-(x : EReal)) = ((-x : ℝ) : EReal) := rfl
  rw [e1]
  have e2 : max ((-x : ℝ) : EReal) 0 = ((max (-x) 0 : ℝ) : EReal) := by
    rcases le_total (-x) 0 with h | h
    · rw [max_eq_right h, max_eq_right (by exact_mod_cast h)]; rfl
    · rw [max_eq_left h, max_eq_left (by exact_mod_cast h)]
  rw [e2]
  have e3 : FloatOps.absf (F := Ideal) (φ := .f32) ((-x : ℝ) : EReal) = ((max (-x) x : ℝ) : EReal) := by
    show max ((-x : ℝ) : EReal) (-((-x : ℝ) : EReal)) = _
    rw [← EReal.coe_neg, neg_neg]
    rcases le_total (-x) x with h | h
    · rw [max_eq_right h, max_eq_right (by exact_mod_cast h)]
    · rw [max_eq_left h, max_eq_left (by exact_mod_cast h)]
  have e4 : ∀ z : ℝ, Ideal.log1p (Ideal.exp (-(z : EReal))) = ((Real.log (1 + Real.exp (-z)) : ℝ) : EReal) := fun z => by
    show (if 1 + Real.exp (-z) ≤ 0 then (⊥ : EReal) else ((Real.log (1 + Real.exp (-z)) : ℝ) : EReal)) = _
    rw [if_neg (by have := Real.exp_pos (-z); linarith)]
  refine ⟨-(max (-x) 0 + Real.log (1 + Real.exp (-(max (-x) x)))), ?_⟩
  refine (congrArg (fun a : EReal => -(_ + Ideal.log1p (Ideal.exp (-a)))) e3).trans ?_
  rw [e4, ← EReal.coe_add, ← EReal.coe_neg]

/-- An extended real whose absolute value is below infinity is a real. -/
theorem real_of_lt (z : EReal) (hz : BitVec.ofBool (decide (max z (-z) < Ideal.ofBits .f32 0x7F800000#32)) = 1#1) : ∃ x : ℝ, z = (x : EReal) := by
  have htop : Ideal.ofBits .f32 0x7F800000#32 = ⊤ := by simp [Ideal.ofBits, Ideal.ieee]
  have hlt : max z (-z) < ⊤ := by
    by_contra hn
    rw [htop, decide_eq_false hn] at hz
    exact absurd hz (by decide)
  induction z using EReal.rec with
  | bot => exact absurd hlt (by simp)
  | top => exact absurd hlt (by simp)
  | coe x => exact ⟨x, rfl⟩

/-- Under the precondition every logit is finite. -/
theorem logit_real (m : (ℓ : Loc nD τ sig) → Buf (Elt Ideal) ℓ) [hF : Cert.Pre_finite_logits.Facts] (hp : Cert.Pre_KernelIdeal_finite_logits m) (c : Dev nD) (d : Fin 2) (h : Fin 4) :
    ∃ x : ℝ, (m ((c.tc : Thread nD τ).loc main_arg1) : FVec Ideal S2x4 .f32) (ix2 d h) = (x : EReal) := by
  have e := congrFun (hp c) (ix2 d h)
  revert e
  pointwise [Cert.Pre_finite_logits.fn]
  exact real_of_lt _

variable (m : (ℓ : Loc nD τ sig) → Buf (Elt Ideal) ℓ)

theorem key_at (c : Dev nD) (t : Fin cfg0.N) (n : ℕ) (hn : n < 2) (r : Fin 128) (h : Fin 4) (j : Fin 64) :
    iblk m c 0 t (ix2 (Hand.crow n hn r) ⟨256 + (Hand.lane h j).val, by have := (Hand.lane h j).isLt; omega⟩)
      = Cert.ReferenceIdeal.Ret.kx (m ((c.tc : Thread nD τ).loc main_arg0)) (ix4 ⟨t.val, t.isLt⟩ h (Hand.crow n hn r) j) := by
  rw [blk_0, xq_k, Cert.ReferenceIdeal.Ret.kx_at]
  simp only [mul_comm h.val]

theorem val_at (c : Dev nD) (t : Fin cfg0.N) (n : ℕ) (hn : n < 2) (r : Fin 128) (h : Fin 4) (v : Fin 128) :
    iblk m c 0 t (ix2 (Hand.crow n hn r) ⟨512 + 128 * h.val + v.val, by omega⟩)
      = Cert.ReferenceIdeal.Ret.vx (m ((c.tc : Thread nD τ).loc main_arg0)) (ix4 ⟨t.val, t.isLt⟩ h (Hand.crow n hn r) v) := by
  rw [blk_0, xq_v, Cert.ReferenceIdeal.Ret.vx_at]
  simp only [mul_comm h.val]

theorem g_at (c : Dev nD) (t : Fin cfg0.N) (d : Fin 2) (h : Fin 4) (j : Fin 64) :
    iblk m c 3 t (ix2 d (Hand.lane h j)) = lsg (m ((c.tc : Thread nD τ).loc main_arg1)) (ix2 d h) := by
  rw [blk_3]
  refine congrArg (fun y => lsg (m ((c.tc : Thread nD τ).loc main_arg1)) (ix2 d y)) (Fin.ext ?_)
  have hh := h.isLt
  simp only [Hand.lane]
  omega

/-- A chunk's token, in the reference's order. -/
theorem crow_eq (n : Fin 2) (r : Fin 128) : (⟨n.val * 128 + r.val, by omega⟩ : Fin 256) = Hand.crow n.val n.isLt r :=
  Fin.ext (by simp only [Hand.crow]; omega)

/-- A token's place when the sequence is read backwards. -/
theorem crow_rev (n : Fin 2) (r : Fin 128) : Fin.rev (⟨n.val * 128 + r.val, by omega⟩ : Fin 256) = Hand.crow n.rev.val n.rev.isLt r.rev :=
  Fin.ext (by simp only [Hand.crow, Fin.val_rev]; omega)

theorem n128 : ((((127 : Fin 128).val + 1 : ℕ)) : ℝ) = 128 := by
  show ((128 : ℕ) : ℝ) = 128
  norm_num

theorem rev_k (x : FVec Ideal Cert.ReferenceIdeal.S32x4x256x64 .f32) (t : Fin 32) (h : Fin 4) (r : Fin 256) (j : Fin 64) :
    Host.reverse [2] x (ix4 t h r j) = x (ix4 t h r.rev j) := by
  pointwise []
  rfl

theorem rev_v (x : FVec Ideal Cert.ReferenceIdeal.S32x4x256x128 .f32) (t : Fin 32) (h : Fin 4) (r : Fin 256) (j : Fin 128) :
    Host.reverse [2] x (ix4 t h r j) = x (ix4 t h r.rev j) := by
  pointwise []
  rfl

theorem rev_g (x : FVec Ideal Cert.ReferenceIdeal.S32x4x256x1 .f32) (t : Fin 32) (h : Fin 4) (r : Fin 256) (j : Fin 1) :
    Host.reverse [2] x (ix4 t h r j) = x (ix4 t h r.rev j) := by
  pointwise []
  rfl

/-- A chunk of the forward direction: the kernel's step is the reference's. -/
theorem fwd (x : Vec Ideal S256x1536 .bf16) (g : Vec Ideal S1x256 .f32) (a : Vec Ideal S2x4x128 .f32)
    (k : FVec Ideal Cert.ReferenceIdeal.S32x4x256x64 .f32) (w : FVec Ideal Cert.ReferenceIdeal.S32x4x256x128 .f32) (y : FVec Ideal Cert.ReferenceIdeal.S32x4x256x1 .f32)
    (t : Fin 32) (h : Fin 4) (j : Fin 64) (v : Fin 128) (γ : ℝ)
    (hk : ∀ n (hn : n < 2) (r : Fin 128), x (ix2 (Hand.crow n hn r) ⟨256 + (Hand.lane h j).val, by have := (Hand.lane h j).isLt; omega⟩) = k (ix4 t h (Hand.crow n hn r) j))
    (hv : ∀ n (hn : n < 2) (r : Fin 128), x (ix2 (Hand.crow n hn r) ⟨512 + 128 * h.val + v.val, by omega⟩) = w (ix4 t h (Hand.crow n hn r) v))
    (hg : g (ix2 0 (Hand.lane h j)) = (γ : EReal)) (ha : a (ix3 0 h v) = (γ : EReal)) (hy : ∀ r, y (ix4 t h r 0) = (γ : EReal)) (n : Fin 2) (s : EReal) :
    Hand.fstep x g a n.val n.isLt h (Hand.lane h j) v s = Cert.ReferenceIdeal.Ret.ea (Cert.ReferenceIdeal.Ret.cum y) (ix4 t h n 0) * s + Cert.ReferenceIdeal.Ret.kv k w (Cert.ReferenceIdeal.Ret.cum y) (ix5 t h n j v) := by
  rw [Cert.ReferenceIdeal.Ret.ea_at, Cert.ReferenceIdeal.Ret.kv_at]
  unfold Hand.fstep
  simp only [Cert.ReferenceIdeal.Ret.cum_at y γ t h hy, crow_eq, hk, hv, hg, ha, c128, c127, n128, ← EReal.coe_sub, ← EReal.coe_mul]
  rw [mul_comm s]
  refine congrArg (fun b : EReal => _ + b) (Finset.sum_congr rfl fun r _ => ?_)
  have e : (127 - (r.val : ℝ)) * γ = 128 * γ - ((r.val + 1 : ℕ) : ℝ) * γ := by
    push_cast
    ring
  rw [e]

/-- A chunk of the backward direction: the kernel's step is the reference's. -/
theorem bwd (x : Vec Ideal S256x1536 .bf16) (K : Vec Ideal S256x512 .f32) (g : Vec Ideal S1x256 .f32) (a : Vec Ideal S2x4x128 .f32)
    (k : FVec Ideal Cert.ReferenceIdeal.S32x4x256x64 .f32) (w : FVec Ideal Cert.ReferenceIdeal.S32x4x256x128 .f32) (y : FVec Ideal Cert.ReferenceIdeal.S32x4x256x1 .f32)
    (t : Fin 32) (h : Fin 4) (j : Fin 64) (v : Fin 128) (γ : ℝ)
    (hk : ∀ n (hn : n < 2) (r : Fin 128), K (ix2 (Hand.crow n hn r) ⟨256 + (Hand.lane h j).val, by have := (Hand.lane h j).isLt; omega⟩) = k (ix4 t h (Hand.crow n hn r) j))
    (hv : ∀ n (hn : n < 2) (r : Fin 128), x (ix2 (Hand.crow n hn r) ⟨512 + 128 * h.val + v.val, by omega⟩) = w (ix4 t h (Hand.crow n hn r) v))
    (hg : g (ix2 0 (Hand.lane h j)) = (γ : EReal)) (ha : a (ix3 1 h v) = (γ : EReal)) (hy : ∀ r, y (ix4 t h r 0) = (γ : EReal)) (n : Fin 2) (s : EReal) :
    Hand.bstep x K g a n.rev.val n.rev.isLt h (Hand.lane h j) v s
      = Cert.ReferenceIdeal.Ret.ea (Cert.ReferenceIdeal.Ret.cum (Host.reverse [2] y)) (ix4 t h n 0) * s + Cert.ReferenceIdeal.Ret.kv (Host.reverse [2] k) (Host.reverse [2] w) (Cert.ReferenceIdeal.Ret.cum (Host.reverse [2] y)) (ix5 t h n j v) := by
  rw [Cert.ReferenceIdeal.Ret.ea_at, Cert.ReferenceIdeal.Ret.kv_at]
  unfold Hand.bstep
  simp only [Cert.ReferenceIdeal.Ret.cum_at (Host.reverse [2] y) γ t h (fun r => (rev_g y t h r 0).trans (hy _)), rev_k, rev_v, crow_rev, hk, hv, hg, ha, c128, n128, ← EReal.coe_sub, ← EReal.coe_mul]
  rw [mul_comm s, ← Equiv.sum_comp Fin.revPerm]
  refine congrArg (fun b : EReal => _ + b) (Finset.sum_congr rfl fun r _ => ?_)
  have e : ((r.rev.val : ℝ)) * γ = 128 * γ - ((r.val + 1 : ℕ) : ℝ) * γ := by
    have h1 : r.rev.val + r.val = 127 := by
      have := r.isLt
      simp only [Fin.val_rev]; omega
    have h2 : (r.rev.val : ℝ) + (r.val : ℝ) = 127 := by exact_mod_cast h1
    rw [show (r.rev.val : ℝ) = 127 - (r.val : ℝ) by linarith]
    push_cast
    ring
  rw [Fin.revPerm_apply, e]
  have ek := rev_k k t h ⟨n.val * 128 + r.val, by omega⟩ j
  have ew := rev_v w t h ⟨n.val * 128 + r.val, by omega⟩ v
  rw [crow_rev] at ek ew
  exact congrArg₂ (fun p q : EReal => p * _ * q) ek.symm ew.symm

/-- A sequence's final states, from the readings of its blocks. -/
theorem st8_of (x : Vec Ideal S256x1536 .bf16) (g : Vec Ideal S2x256 .f32) (a : Vec Ideal S2x4x128 .f32)
    (k : FVec Ideal Cert.ReferenceIdeal.S32x4x256x64 .f32) (w : FVec Ideal Cert.ReferenceIdeal.S32x4x256x128 .f32) (y z : FVec Ideal Cert.ReferenceIdeal.S32x4x256x1 .f32)
    (t : Fin 32) (d : Fin 2) (h : Fin 4) (j : Fin 64) (v : Fin 128) (α β : ℝ)
    (hk : ∀ n (hn : n < 2) (r : Fin 128), x (ix2 (Hand.crow n hn r) ⟨256 + (Hand.lane h j).val, by have := (Hand.lane h j).isLt; omega⟩) = k (ix4 t h (Hand.crow n hn r) j))
    (hv : ∀ n (hn : n < 2) (r : Fin 128), x (ix2 (Hand.crow n hn r) ⟨512 + 128 * h.val + v.val, by omega⟩) = w (ix4 t h (Hand.crow n hn r) v))
    (hg : g (ix2 0 (Hand.lane h j)) = (α : EReal)) (ha : a (ix3 0 h v) = (α : EReal)) (hy : ∀ r, y (ix4 t h r 0) = (α : EReal))
    (hg' : g (ix2 1 (Hand.lane h j)) = (β : EReal)) (ha' : a (ix3 1 h v) = (β : EReal)) (hz : ∀ r, z (ix4 t h r 0) = (β : EReal)) :
    Hand.st8 x g a (ix5 0 d h j v)
      = if d.val < 1 then Cert.ReferenceIdeal.Ret.sta k w y (ix4 t h j v) else Cert.ReferenceIdeal.Ret.sta (Host.reverse [2] k) (Host.reverse [2] w) (Host.reverse [2] z) (ix4 t h j v) := by
  by_cases hd : d.val = 0
  · rw [if_pos (show d.val < 1 by omega), Cert.ReferenceIdeal.Ret.sta, Cert.ReferenceIdeal.Ret.st_at]
    have hf := fwd x (fun y => g (ix2 0 (y 1 : Fin 256))) a k w y t h j v α hk hv hg ha hy
    rw [← hf 0, ← hf 1]
    exact if_pos hd
  · rw [if_neg (show ¬ d.val < 1 by omega), Cert.ReferenceIdeal.Ret.sta, Cert.ReferenceIdeal.Ret.st_at]
    have hb := bwd x (fun y => x (ix2 (y 0 : Fin 256) (Fin.castLE (by decide : 512 ≤ 1536) (y 1 : Fin 512)))) (fun y => g (ix2 1 (y 1 : Fin 256))) a k w z t h j v β hk hv hg' ha' hz
    rw [← hb 0, ← hb 1]
    exact if_neg hd

/-- A sequence's final states. -/
theorem st8_eq [hF : Cert.Pre_finite_logits.Facts] (hp : Cert.Pre_KernelIdeal_finite_logits m) (c : Dev nD) (t : Fin cfg0.N) (d : Fin 2) (h : Fin 4) (j : Fin 64) (v : Fin 128) :
    Hand.st8 (iblk m c 0 t) (iblk m c 3 t) (iblk m c 4 t) (ix5 0 d h j v)
      = Cert.ReferenceIdeal.Ret.both (m ((c.tc : Thread nD τ).loc main_arg0)) (m ((c.tc : Thread nD τ).loc main_arg1)) (ix5 ⟨t.val, t.isLt⟩ d h j v) := by
  obtain ⟨a, ha⟩ := logit_real m hp c 0 h
  obtain ⟨α, hα⟩ := lsg_real _ 0 h a ha
  obtain ⟨b, hb⟩ := logit_real m hp c 1 h
  obtain ⟨β, hβ⟩ := lsg_real _ 1 h b hb
  have key := fun n hn r => key_at m c t n hn r h j
  have val := fun n hn r => val_at m c t n hn r h v
  have g0 := (g_at m c t 0 h j).trans hα
  have g1 := (g_at m c t 1 h j).trans hβ
  have a0 := (blk_4 m c t 0 h v).trans hα
  have a1 := (blk_4 m c t 1 h v).trans hβ
  have y0 := fun r => (Cert.ReferenceIdeal.Ret.gf_at (Cert.ReferenceIdeal.Ret.lsg (m ((c.tc : Thread nD τ).loc main_arg1))) ⟨t.val, t.isLt⟩ h r).trans hα
  have y1 := fun r => (Cert.ReferenceIdeal.Ret.gb_at (Cert.ReferenceIdeal.Ret.lsg (m ((c.tc : Thread nD τ).loc main_arg1))) ⟨t.val, t.isLt⟩ h r).trans hβ
  rw [Cert.ReferenceIdeal.Ret.both_at]
  generalize iblk m c 0 t = x at *
  generalize iblk m c 3 t = g at *
  generalize iblk m c 4 t = u at *
  exact st8_of x g u _ _ _ _ ⟨t.val, t.isLt⟩ d h j v α β key val g0 a0 y0 g1 a1 y1

/-- The array the run leaves for the final states is the reference's result. -/
theorem final_7 [hF : Cert.Pre_finite_logits.Facts] (hp : Cert.Pre_KernelIdeal_finite_logits m) (c : Dev nD) :
    (dats m 0 c).arrAt 7 (cfgs 0).N = Cert.ReferenceIdeal.Ret.both (m ((c.tc : Thread nD τ).loc main_arg0)) (m ((c.tc : Thread nD τ).loc main_arg1)) := by
  refine (dats m 0 c).arrAt_eq_of_covers 7 _ (by decide +kernel) fun t hf y => ?_
  blk_simp
  rw [show (dats m 0 c).after 7 t = Hand.st8 (iblk m c 0 t) (iblk m c 3 t) (iblk m c 4 t) from rfl]
  idx_vars y
  refine Eq.trans ?_ ((st8_eq m hp c t ‹_› ‹_› ‹_› ‹_›).trans ?_)
  · rfl
  · refine congrArg _ ?_
    blk_ext [idx t]

end Cert.KernelIdeal.Ret

end
-- ==== Proof.lean ====
/- The certificate of the layer's kernels: every claim, from the runs of the programs and the modules that read their results. -/
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Proj
public import proofs.«01_k».proof.Proof.Mrg
public import proofs.«01_k».proof.Pre_finite_logits
public import proofs.«01_k».proof.Proof.Ada
public import proofs.«01_k».proof.Proof.RetEq
public import Idealize.ShloMosaic.Lib.Claim

@[expose] public section

set_option maxRecDepth 16384

noncomputable section

namespace Cert.Proof

open Idealize.ShloMosaic Idealize.ShloMosaic.TcCoe Idealize.SL.Sem

/-- The retention's reference runs, and leaves its arguments and the semaphores as they were. -/
theorem frame_R : Cert.quiescent_ReferenceIdeal := fun m g _ =>
  (θ_run Cert.ReferenceIdeal.defs _ _).mono (fun r h => ⟨fun c => (h c).2,
    sem_eq_zero_of_no_sems (by decide) r.2⟩) (Cert.ReferenceIdeal.Value.run m g)

/-- The in-projection's reference runs, and leaves its arguments and the semaphores as they were. -/
theorem frame_R2 : Cert.quiescent_Reference2Ideal := fun m g _ =>
  (θ_run Cert.Reference2Ideal.defs _ _).mono (fun r h => ⟨fun c => (h c).2.2.2.2.2,
    sem_eq_zero_of_no_sems (by decide) r.2⟩) (Cert.Reference2Ideal.Value.run m g)

/-- The merge's reference runs, and leaves its arguments and the semaphores as they were. -/
theorem frame_R3 : Cert.quiescent_Reference3Ideal := fun m g _ =>
  (θ_run Cert.Reference3Ideal.defs _ _).mono (fun r h => ⟨fun c => (h c).2.2,
    sem_eq_zero_of_no_sems (by decide) r.2⟩) (Cert.Reference3Ideal.Value.run m g)

/-- The modulation's reference ends with its arguments and semaphores as they were. -/
theorem frame_R4 : Cert.quiescent_Reference4Ideal := fun m g _ =>
  (θ_run Cert.Reference4Ideal.defs _ _).mono (fun r h => ⟨fun c => (h c).2,
    sem_eq_zero_of_no_sems (by decide) r.2⟩) (Cert.Reference4Ideal.Value.run m g)

set_option maxRecDepth 16384 in
set_option maxHeartbeats 4000000 in
/-- What the in-projection's reference ends holding, each result as its last stage over the arguments. -/
theorem proj_ref (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ fun r => ∀ c : Dev Cert.Reference2Ideal.nD,
      r.2.mem ((c.tc : Thread Cert.Reference2Ideal.nD Cert.Reference2Ideal.τ).loc Cert.Reference2Ideal.main_v90)
          = Cert.Reference2Ideal.Read.val_main_v90 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v92)
          = Cert.Reference2Ideal.Read.val_main_v92 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v94)
          = Cert.Reference2Ideal.Read.val_main_v94 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v95)
          = Cert.Reference2Ideal.Read.val_main_v95 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v96)
          = Cert.Reference2Ideal.Read.val_main_v96 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  (θ_run Cert.Reference2Ideal.defs _ _).mono (fun _ h c => ⟨(h c).1.trans (Cert.Reference2Ideal.Read.val_main_v90_eq m c),
    (h c).2.1.trans (Cert.Reference2Ideal.Read.val_main_v92_eq m c),
    (h c).2.2.1.trans (Cert.Reference2Ideal.Read.val_main_v94_eq m c),
    (h c).2.2.2.1.trans (Cert.Reference2Ideal.Read.val_main_v95_eq _ _ _ _ _),
    (h c).2.2.2.2.1.trans (Cert.Reference2Ideal.Read.val_main_v96_eq m c),
    (h c).2.2.2.2.2⟩) (Cert.Reference2Ideal.Value.run m g)

set_option maxHeartbeats 4000000 in
/-- The in-projection computes the reference's five results. -/
theorem proj : Cert.algebraic_Kernel2Ideal_Reference2Ideal := by
  pair_intro
  · run_from Cert.Kernel2Ideal.Gen.run_main m g
  · refine (θ_run Cert.Reference2Ideal.defs _ _).mono (fun r h c => ?_) (proj_ref m' g')
    obtain ⟨e0, e1, e2, e3, e4⟩ := hagree c
    refine ⟨((h c).1.trans ?_),
      ((h c).2.1.trans ?_),
      ((h c).2.2.1.trans ?_),
      ((h c).2.2.2.1.trans ?_),
      ((h c).2.2.2.2.1.trans ?_), (h c).2.2.2.2.2⟩
    · rw [e0, e1, e2, e3, e4]
      exact (Cert.Kernel2Ideal.Proj.final_9 m c).symm
    · rw [e0, e1, e2, e3, e4]
      exact (Cert.Kernel2Ideal.Proj.final_10 m c).symm
    · rw [e0, e1, e2, e3, e4]
      exact (Cert.Kernel2Ideal.Proj.final_11 m c).symm
    · rw [e0, e1, e2, e3, e4]
      exact (Cert.Kernel2Ideal.Proj.final_12 m c).symm
    · rw [e0, e1, e2, e3, e4]
      exact (Cert.Kernel2Ideal.Proj.final_13 m c).symm

set_option maxRecDepth 16384 in
set_option maxHeartbeats 4000000 in
/-- What the merge's reference ends holding, each result as its last stage over the arguments. -/
theorem merge_ref (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ fun r => ∀ c : Dev Cert.Reference3Ideal.nD,
      r.2.mem ((c.tc : Thread Cert.Reference3Ideal.nD Cert.Reference3Ideal.τ).loc Cert.Reference3Ideal.main_v114)
          = Cert.Reference3Ideal.Read.val_main_v114 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))
      ∧ r.2.mem ((c.tc : Thread Cert.Reference3Ideal.nD Cert.Reference3Ideal.τ).loc Cert.Reference3Ideal.main_v115)
          = Cert.Reference3Ideal.Read.val_main_v115 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12) :=
  (θ_run Cert.Reference3Ideal.defs _ _).mono (fun _ h c => ⟨(h c).1.trans (Cert.Reference3Ideal.Read.val_main_v114_eq m c),
    (h c).2.1.trans (Cert.Reference3Ideal.Read.val_main_v115_eq m c),
    (h c).2.2⟩) (Cert.Reference3Ideal.Value.run m g)

set_option maxHeartbeats 4000000 in
/-- The merge computes the reference's two results. -/
theorem merge : Cert.algebraic_Kernel3Ideal_Reference3Ideal := by
  pair_intro
  · run_from Cert.Kernel3Ideal.Gen.run_main m g
  · refine (θ_run Cert.Reference3Ideal.defs _ _).mono (fun r h c => ?_) (merge_ref m' g')
    obtain ⟨e0, e1, e2, e3, e4, e5, e6, e7, e8, e9, e10, e11, e12⟩ := hagree c
    refine ⟨((h c).1.trans ?_),
      ((h c).2.1.trans ?_), (h c).2.2⟩
    · rw [e0, e1, e2, e4, e5, e6, e7, e8, e9, e10, e11, e12]
      exact (Cert.Kernel3Ideal.Mrg.final_13 m c).symm
    · rw [e0, e1, e2, e3, e4, e5, e6, e7, e8, e9, e10, e11, e12]
      exact (Cert.Kernel3Ideal.Mrg.final_14 m c).symm

set_option maxHeartbeats 4000000 in
/-- The modulation computes the reference's rows. -/
theorem ada : Cert.algebraic_Kernel4Ideal_Reference4Ideal := by
  pair_intro
  · run_from Cert.Kernel4Ideal.Gen.run_main m g
  · refine (θ_run Cert.Reference4Ideal.defs _ _).mono (fun r h c => ?_) (Cert.Reference4Ideal.Value.run m' g')
    obtain ⟨e0, e1, e2, e3⟩ := hagree c
    refine ⟨(h c).1.trans ((Cert.Reference4Ideal.Read.val_main_v42_eq m' c).trans ?_), (h c).2⟩
    rw [e0, e1, e2, e3]
    exact (Cert.Kernel4Ideal.Ada.final_3 m c).symm

/-- The side condition of the predicate on the decay logits. -/
theorem pre_facts : Cert.Pre_finite_logits.Facts := ⟨by decide⟩

/-- The retention's final states are the reference's, at finite decay logits. -/
theorem retention [hF : Cert.Pre_finite_logits.Facts] : Cert.algebraic_KernelIdeal_ReferenceIdeal_pre_finite_logits := fun m g m' g' hp hagree =>
  ⟨fun c => Cert.ReferenceIdeal.Ret.both (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run Cert.KernelIdeal.defs _ _).mono (fun _ h c => ⟨(h.1 c).trans (Cert.KernelIdeal.Ret.final_7 m hp c), h.2 c⟩)
      (θ_run_and (Cert.KernelIdeal.Ret.run_st m g)
        (Cert.KernelIdeal.Hand.unchanged_of m g (fun c => (Cert.KernelIdeal.Ret.dats m 0 c).toRForget Cert.KernelIdeal.Ret.forgets0)
          (Cert.KernelIdeal.Ret.A_eq m) (Cert.KernelIdeal.Ret.run_main m g))),
    (θ_run Cert.ReferenceIdeal.defs _ _).mono (fun _ h c => by
      obtain ⟨e0, e1, _⟩ := hagree c
      refine ⟨(h c).1.trans ((Cert.ReferenceIdeal.Ret.res_eq m' c).trans ?_), (h c).2⟩
      rw [e0, e1]) (Cert.ReferenceIdeal.Value.run m' g')⟩

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, pre_facts,
    fun m g _ => Cert.Kernel.Hand.frame m g, fun m g _ => Cert.KernelIdeal.Hand.frame m g, fun m g _ => Cert.KernelIdeal.Hand.frame m g,
    frame_R, fun m g _ => frame_R m g trivial,
    fun m g _ => Cert.Kernel2.Gen.frame m g, fun m g _ => Cert.Kernel2Ideal.Gen.frame m g, frame_R2,
    fun m g _ => Cert.Kernel3.Gen.frame m g, fun m g _ => Cert.Kernel3Ideal.Gen.frame m g, frame_R3,
    fun m g _ => Cert.Kernel4.Gen.frame m g, fun m g _ => Cert.Kernel4Ideal.Gen.frame m g, frame_R4,
    trivial, retention (hF := pre_facts), trivial, proj, trivial, merge, trivial, ada⟩

end Cert.Proof

end
